-- ==== Defs.lean ====
def Pre_Kernel [hPre_batch_in_range : Cert.Pre_batch_in_range.Facts] (m : (ℓ : Loc Cert.Kernel.nD Cert.Kernel.τ Cert.Kernel.sig) → Buf (Elt Bits) ℓ) : Prop :=
  ∀ c : Dev Cert.Kernel.nD,
    (Cert.Pre_batch_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_batch_in_range : Cert.Pre_batch_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_batch_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_boxes_fit [hPre_boxes_fit : Cert.Pre_boxes_fit.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes_fit [hPre_boxes_fit : Cert.Pre_boxes_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_batch_in_range : Cert.Pre_batch_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_batch_in_range : Cert.Pre_batch_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_boxes_fit [hKernelIdeal : Cert.KernelIdeal.Facts] [hPre_boxes_fit : Cert.Pre_boxes_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boxes_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_boxes_fit [hReferenceIdeal : Cert.ReferenceIdeal.Facts] [hPre_boxes_fit : Cert.Pre_boxes_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_boxes_fit [hKernelIdeal : Cert.KernelIdeal.Facts] [hReferenceIdeal : Cert.ReferenceIdeal.Facts] [hPre_boxes_fit : Cert.Pre_boxes_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boxes_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v231) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_batch_in_range : Cert.Pre_batch_in_range.Facts) (hPre_boxes_fit : Cert.Pre_boxes_fit.Facts),
    quiescent_Kernel (hKernel := hKernel) (hPre_batch_in_range := hPre_batch_in_range)
    ∧ quiescent_KernelIdeal (hKernelIdeal := hKernelIdeal) (hPre_batch_in_range := hPre_batch_in_range)
    ∧ quiescent_KernelIdeal_pre_boxes_fit (hKernelIdeal := hKernelIdeal) (hPre_boxes_fit := hPre_boxes_fit)
    ∧ quiescent_ReferenceIdeal (hReferenceIdeal := hReferenceIdeal)
    ∧ quiescent_ReferenceIdeal_pre_boxes_fit (hReferenceIdeal := hReferenceIdeal) (hPre_boxes_fit := hPre_boxes_fit)
    ∧ preserves_Kernel_KernelIdeal
    ∧ algebraic_KernelIdeal_ReferenceIdeal_pre_boxes_fit (hKernelIdeal := hKernelIdeal) (hReferenceIdeal := hReferenceIdeal) (hPre_boxes_fit := hPre_boxes_fit)
-- ==== Pre_batch_in_range.lean ====
abbrev S2x128x50x50 : Shape := ⟨4, ![2, 128, 50, 50]⟩
abbrev S100x5 : Shape := ⟨2, ![100, 5]⟩
abbrev S100x128x50x50 : Shape := ⟨4, ![100, 128, 50, 50]⟩
abbrev S100x1 : Shape := ⟨2, ![100, 1]⟩
abbrev S100 : Shape := ⟨1, ![100]⟩
abbrev S_ : Shape := ⟨0, ![]⟩

class Facts : Prop where
  slices_S100x5_S100x1_0_0 : S100x5.Slices ![0, 0] S100x1
  shapeCasts_S100x1_S100 : S100x1.ShapeCasts S100
  bcast_S_S100 : S_.BroadcastsInDim S100 (![] : Fin 0 → Fin S100.rank)

variable [Facts]

def fn {F : FTy → Type} [FloatOps F] (main_arg0 : FVec F S2x128x50x50 .f32) (main_arg1 : FVec F S100x5 .f32) (main_arg2 : FVec F S100x128x50x50 .f32) : IVec S100 1 :=
  let main_v0 : FVec F S100x1 .f32 := (extractStridedSlice S100x1 ![0, 0] · slices_S100x5_S100x1_0_0) main_arg1
  let main_v1 : FVec F S100 .f32 := shapeCast S100 main_v0 shapeCasts_S100x1_S100
  let main_v2 : IVec S100 32 := fptosi 32 main_v1
  let main_c : IVec S_ 32 := constantI S_ 32 0#32
  let main_v3 : IVec S100 32 := broadcastInDim S100 ![] bcast_S_S100 main_c
  let main_v4 : IVec S100 1 := cmpi .sge main_v2 main_v3
  let main_c_0 : IVec S_ 32 := constantI S_ 32 2#32
  let main_v5 : IVec S100 32 := broadcastInDim S100 ![] bcast_S_S100 main_c_0
  let main_v6 : IVec S100 1 := cmpi .slt main_v2 main_v5
  let main_v7 : IVec S100 1 := andi main_v4 main_v6
  main_v7
-- ==== Pre_boxes_fit.lean ====
abbrev S2x128x50x50 : Shape := ⟨4, ![2, 128, 50, 50]⟩
abbrev S100x5 : Shape := ⟨2, ![100, 5]⟩
abbrev S100x128x50x50 : Shape := ⟨4, ![100, 128, 50, 50]⟩
abbrev S100x1 : Shape := ⟨2, ![100, 1]⟩
abbrev S100 : Shape := ⟨1, ![100]⟩
abbrev S_ : Shape := ⟨0, ![]⟩

class Facts : Prop where
  slices_S100x5_S100x1_0_0 : S100x5.Slices ![0, 0] S100x1
  shapeCasts_S100x1_S100 : S100x1.ShapeCasts S100
  bcast_S_S100 : S_.BroadcastsInDim S100 (![] : Fin 0 → Fin S100.rank)
  slices_S100x5_S100x1_0_4 : S100x5.Slices ![0, 4] S100x1
  slices_S100x5_S100x1_0_2 : S100x5.Slices ![0, 2] S100x1

variable [Facts]

def fn_part1 {F : FTy → Type} [FloatOps F] (main_v7 : IVec S100 1) (main_v18 : IVec S100 1) : IVec S100 1 :=
  let main_v19 : IVec S100 1 := andi main_v7 main_v18
  main_v19

def fn {F : FTy → Type} [FloatOps F] (main_arg0 : FVec F S2x128x50x50 .f32) (main_arg1 : FVec F S100x5 .f32) (main_arg2 : FVec F S100x128x50x50 .f32) : IVec S100 1 :=
  let main_v0 : FVec F S100x1 .f32 := (extractStridedSlice S100x1 ![0, 0] · slices_S100x5_S100x1_0_0) main_arg1
  let main_v1 : FVec F S100 .f32 := shapeCast S100 main_v0 shapeCasts_S100x1_S100
  let main_v2 : IVec S100 32 := fptosi 32 main_v1
  let main_c : IVec S_ 32 := constantI S_ 32 0#32
  let main_v3 : IVec S100 32 := broadcastInDim S100 ![] bcast_S_S100 main_c
  let main_v4 : IVec S100 1 := cmpi .sge main_v2 main_v3
  let main_c_0 : IVec S_ 32 := constantI S_ 32 2#32
  let main_v5 : IVec S100 32 := broadcastInDim S100 ![] bcast_S_S100 main_c_0
  let main_v6 : IVec S100 1 := cmpi .slt main_v2 main_v5
  let main_v7 : IVec S100 1 := andi main_v4 main_v6
  let main_v8 : FVec F S100x1 .f32 := (extractStridedSlice S100x1 ![0, 4] · slices_S100x5_S100x1_0_4) main_arg1
  let main_v9 : FVec F S100 .f32 := shapeCast S100 main_v8 shapeCasts_S100x1_S100
  let main_cst : FVec F S_ .f32 := constant S_ .f32 0x3E800000#32
  let main_v10 : FVec F S100 .f32 := broadcastInDim S100 ![] bcast_S_S100 main_cst
  let main_v11 : FVec F S100 .f32 := mulf main_v9 main_v10
  let main_v12 : FVec F S100x1 .f32 := (extractStridedSlice S100x1 ![0, 2] · slices_S100x5_S100x1_0_2) main_arg1
  let main_v13 : FVec F S100 .f32 := shapeCast S100 main_v12 shapeCasts_S100x1_S100
  let main_cst_1 : FVec F S_ .f32 := constant S_ .f32 0x3E800000#32
  let main_v14 : FVec F S100 .f32 := broadcastInDim S100 ![] bcast_S_S100 main_cst_1
  let main_v15 : FVec F S100 .f32 := mulf main_v13 main_v14
  let main_v16 : FVec F S100 .f32 := subf main_v11 main_v15
  let main_cst_2 : FVec F S_ .f32 := constant S_ .f32 0x41B00000#32
  let main_v17 : FVec F S100 .f32 := broadcastInDim S100 ![] bcast_S_S100 main_cst_2
  let main_v18 : IVec S100 1 := cmpf .ole main_v16 main_v17
  fn_part1 (F := F) main_v7 main_v18
-- ==== Kernel.lean ====
abbrev S2x128x50x50 : Shape := ⟨4, ![2, 128, 50, 50]⟩
abbrev S100x5 : Shape := ⟨2, ![100, 5]⟩
abbrev S100x128x50x50 : Shape := ⟨4, ![100, 128, 50, 50]⟩
abbrev S100x128x49 : Shape := ⟨3, ![100, 128, 49]⟩
abbrev S1x128x49 : Shape := ⟨3, ![1, 128, 49]⟩
abbrev S4x128x24x50 : Shape := ⟨4, ![4, 128, 24, 50]⟩
abbrev S4 : Shape := ⟨1, ![4]⟩
abbrev S1x1 : Shape := ⟨2, ![1, 1]⟩
abbrev S1 : Shape := ⟨1, ![1]⟩
abbrev S_ : Shape := ⟨0, ![]⟩
abbrev S1x128x24x50 : Shape := ⟨4, ![1, 128, 24, 50]⟩
abbrev S128x24x50 : Shape := ⟨3, ![128, 24, 50]⟩
abbrev S50x16 : Shape := ⟨2, ![50, 16]⟩
abbrev S24x16 : Shape := ⟨2, ![24, 16]⟩
abbrev S3072x50 : Shape := ⟨2, ![3072, 50]⟩
abbrev S3072x16 : Shape := ⟨2, ![3072, 16]⟩
abbrev S128x24x16 : Shape := ⟨3, ![128, 24, 16]⟩
abbrev S128x16x16 : Shape := ⟨3, ![128, 16, 16]⟩
abbrev S256x56 : Shape := ⟨2, ![256, 56]⟩
abbrev S128x256 : Shape := ⟨2, ![128, 256]⟩
abbrev S128x56 : Shape := ⟨2, ![128, 56]⟩
abbrev S128x49 : Shape := ⟨2, ![128, 49]⟩

abbrev nBuf : Space → Nat
  | .hbm => 4
  | .vmem => 4
  | .smem => 1
  | _ => 0

abbrev bufTy : (tb : Table) → Fin (tcTables nBuf tb) → BufTy
  | .hbm, ⟨0, _⟩ => ⟨S2x128x50x50, .f32⟩
  | .hbm, ⟨1, _⟩ => ⟨S100x5, .f32⟩
  | .hbm, ⟨2, _⟩ => ⟨S100x128x50x50, .f32⟩
  | .hbm, ⟨3, _⟩ => ⟨S100x128x49, .f32⟩
  | .local _ .vmem, ⟨0, _⟩ => ⟨S2x128x50x50, .f32⟩
  | .local _ .vmem, ⟨1, _⟩ => ⟨S1x128x49, .f32⟩
  | .local _ .vmem, ⟨2, _⟩ => ⟨S1x128x49, .f32⟩
  | .local _ .vmem, ⟨3, _⟩ => ⟨S4x128x24x50, .f32⟩
  | .local _ .smem, ⟨0, _⟩ => ⟨S100x5, .f32⟩
  | _, _ => ⟨S2x128x50x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_scratch0 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![100], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v346 : BitVec 32) : Fin 4 → Nat :=
  let c0_i32_120 : BitVec 32 := 0#32
  let c0_i32_126 : BitVec 32 := 0#32
  let c0_i32_118 : BitVec 32 := 0#32
  let v347 : BitVec 32 := Scalar.maxsi v346 c0_i32_118
  let c26_i32_119 : BitVec 32 := 26#32
  let v348 : BitVec 32 := Scalar.minsi v347 c26_i32_119
  let c0_i32_127 : BitVec 32 := 0#32
  ![0, 0, v348.toNat, 0]

def k0_chk1 (i : grid0.Coords) (v346 : BitVec 32) : Prop :=
  (∀ (k0_h1 : k0_cond1 i = 1#1), ∀ a, (k0_off1 v346) a + S1x128x24x50.size a ≤ S100x128x50x50.size a)
theorem k0_off1_inb : ∀ (i : grid0.Coords) (v346 : BitVec 32) (k0_hw1 : k0_chk1 i v346), ∀ (k0_h1 : k0_cond1 i = 1#1), ∀ a, (k0_off1 v346) a + S1x128x24x50.size a ≤ S100x128x50x50.size a := fun i v346 k0_hw1 k0_h1 => k0_hw1 k0_h1

def k0_off2 (v360 : BitVec 32) : Fin 4 → Nat :=
  let c1_i32_135 : BitVec 32 := 1#32
  let c0_i32_141 : BitVec 32 := 0#32
  let c0_i32_133 : BitVec 32 := 0#32
  let v361 : BitVec 32 := Scalar.maxsi v360 c0_i32_133
  let c26_i32_134 : BitVec 32 := 26#32
  let v362 : BitVec 32 := Scalar.minsi v361 c26_i32_134
  let c0_i32_142 : BitVec 32 := 0#32
  ![1, 0, v362.toNat, 0]

def k0_chk2 (i : grid0.Coords) (v360 : BitVec 32) : Prop :=
  (∀ (k0_h1 : k0_cond1 i = 1#1), ∀ a, (k0_off2 v360) a + S1x128x24x50.size a ≤ S100x128x50x50.size a)
theorem k0_off2_inb : ∀ (i : grid0.Coords) (v360 : BitVec 32) (k0_hw2 : k0_chk2 i v360), ∀ (k0_h1 : k0_cond1 i = 1#1), ∀ a, (k0_off2 v360) a + S1x128x24x50.size a ≤ S100x128x50x50.size a := fun i v360 k0_hw2 k0_h1 => k0_hw2 k0_h1

def k0_off3 (v374 : BitVec 32) : Fin 4 → Nat :=
  let c2_i32_150 : BitVec 32 := 2#32
  let c0_i32_156 : BitVec 32 := 0#32
  let c0_i32_148 : BitVec 32 := 0#32
  let v375 : BitVec 32 := Scalar.maxsi v374 c0_i32_148
  let c26_i32_149 : BitVec 32 := 26#32
  let v376 : BitVec 32 := Scalar.minsi v375 c26_i32_149
  let c0_i32_157 : BitVec 32 := 0#32
  ![2, 0, v376.toNat, 0]

def k0_chk3 (i : grid0.Coords) (v374 : BitVec 32) : Prop :=
  (∀ (k0_h1 : k0_cond1 i = 1#1), ∀ a, (k0_off3 v374) a + S1x128x24x50.size a ≤ S100x128x50x50.size a)
theorem k0_off3_inb : ∀ (i : grid0.Coords) (v374 : BitVec 32) (k0_hw3 : k0_chk3 i v374), ∀ (k0_h1 : k0_cond1 i = 1#1), ∀ a, (k0_off3 v374) a + S1x128x24x50.size a ≤ S100x128x50x50.size a := fun i v374 k0_hw3 k0_h1 => k0_hw3 k0_h1

def k0_cond2 (i : grid0.Coords) : BitVec 1 :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c100_i32 : BitVec 32 := 100#32
  let v5 : BitVec 1 := Scalar.cmpi .slt v4 c100_i32
  let v6 : BitVec 32 := Scalar.extui v5
  let c0_i32_1 : BitVec 32 := 0#32
  let v7 : BitVec 1 := Scalar.cmpi .ne v6 c0_i32_1
  v7

def k0_off4 (i : grid0.Coords) : Fin 2 → Nat :=
  let arg0 : BitVec 32 := BitVec.ofNat 32 (i 0).val
  let c4_i32_113 : BitVec 32 := 4#32
  let v341 : BitVec 32 := Scalar.addi arg0 c4_i32_113
  let c1_i32_114 : BitVec 32 := 1#32
  let v342 : BitVec 32 := Scalar.subi v341 c1_i32_114
  let v355 : Index := Scalar.indexCast v342
  let c2_123 : Index := 2#32
  ![v355.toNat, 2]
def k0_off5 (i : grid0.Coords) : Fin 1 → Nat :=
  let arg0 : BitVec 32 := BitVec.ofNat 32 (i 0).val
  let c4_i32_115 : BitVec 32 := 4#32
  let v343 : BitVec 32 := Scalar.addi arg0 c4_i32_115
  let c1_i32_116 : BitVec 32 := 1#32
  let v344 : BitVec 32 := Scalar.subi v343 c1_i32_116
  let c4_i32_117 : BitVec 32 := 4#32
  let c0_i32_118 : BitVec 32 := 0#32
  let v345 : BitVec 1 := Scalar.cmpi .eq c4_i32_117 c0_i32_118
  let c1_i32_119 : BitVec 32 := 1#32
  let v346 : BitVec 32 := Scalar.select v345 c1_i32_119 c4_i32_117
  let v347 : BitVec 32 := Scalar.remsi v344 v346
  let c0_i32_121 : BitVec 32 := 0#32
  let v349 : BitVec 1 := Scalar.cmpi .slt v347 c0_i32_121
  let c0_i32_122 : BitVec 32 := 0#32
  let v350 : BitVec 1 := Scalar.cmpi .slt v346 c0_i32_122
  let v351 : BitVec 1 := Scalar.xori v349 v350
  let c0_i32_120 : BitVec 32 := 0#32
  let v348 : BitVec 1 := Scalar.cmpi .ne v347 c0_i32_120
  let v352 : BitVec 1 := Scalar.andi v351 v348
  let v353 : BitVec 32 := Scalar.addi v347 v346
  let v354 : BitVec 32 := Scalar.select v352 v353 v347
  ![v354.toNat]
def k0_off6 (i : grid0.Coords) : Fin 4 → Nat :=
  let arg0 : BitVec 32 := BitVec.ofNat 32 (i 0).val
  let c4_i32_115 : BitVec 32 := 4#32
  let v343 : BitVec 32 := Scalar.addi arg0 c4_i32_115
  let c1_i32_116 : BitVec 32 := 1#32
  let v344 : BitVec 32 := Scalar.subi v343 c1_i32_116
  let c4_i32_117 : BitVec 32 := 4#32
  let c0_i32_118 : BitVec 32 := 0#32
  let v345 : BitVec 1 := Scalar.cmpi .eq c4_i32_117 c0_i32_118
  let c1_i32_119 : BitVec 32 := 1#32
  let v346 : BitVec 32 := Scalar.select v345 c1_i32_119 c4_i32_117
  let v347 : BitVec 32 := Scalar.remsi v344 v346
  let c0_i32_121 : BitVec 32 := 0#32
  let v349 : BitVec 1 := Scalar.cmpi .slt v347 c0_i32_121
  let c0_i32_122 : BitVec 32 := 0#32
  let v350 : BitVec 1 := Scalar.cmpi .slt v346 c0_i32_122
  let v351 : BitVec 1 := Scalar.xori v349 v350
  let c0_i32_120 : BitVec 32 := 0#32
  let v348 : BitVec 1 := Scalar.cmpi .ne v347 c0_i32_120
  let v352 : BitVec 1 := Scalar.andi v351 v348
  let v353 : BitVec 32 := Scalar.addi v347 v346
  let v354 : BitVec 32 := Scalar.select v352 v353 v347
  let c0_i32_129 : BitVec 32 := 0#32
  let c0_i32_130 : BitVec 32 := 0#32
  let c0_i32_131 : BitVec 32 := 0#32
  ![v354.toNat, 0, 0, 0]
def k0_off7 (i : grid0.Coords) (v361 : BitVec 32) : Fin 4 → Nat :=
  let arg0 : BitVec 32 := BitVec.ofNat 32 (i 0).val
  let c4_i32_113 : BitVec 32 := 4#32
  let v341 : BitVec 32 := Scalar.addi arg0 c4_i32_113
  let c1_i32_114 : BitVec 32 := 1#32
  let v342 : BitVec 32 := Scalar.subi v341 c1_i32_114
  let c0_i32_132 : BitVec 32 := 0#32
  let c0_i32_127 : BitVec 32 := 0#32
  let v362 : BitVec 32 := Scalar.maxsi v361 c0_i32_127
  let c26_i32_128 : BitVec 32 := 26#32
  let v363 : BitVec 32 := Scalar.minsi v362 c26_i32_128
  let c0_i32_133 : BitVec 32 := 0#32
  ![v342.toNat, 0, v363.toNat, 0]

def k0_chk4 (i : grid0.Coords) (v361 : BitVec 32) : Prop :=
  (∀ (k0_h2 : k0_cond2 i = 1#1), ∀ a, (k0_off7 i v361) a + S1x128x24x50.size a ≤ S100x128x50x50.size a)
theorem k0_off7_inb : ∀ (i : grid0.Coords) (v361 : BitVec 32) (k0_hw4 : k0_chk4 i v361), ∀ (k0_h2 : k0_cond2 i = 1#1), ∀ a, (k0_off7 i v361) a + S1x128x24x50.size a ≤ S100x128x50x50.size a := fun i v361 k0_hw4 k0_h2 => k0_hw4 k0_h2

def k0_off8 (i : grid0.Coords) : Fin 2 → Nat :=
  let arg0 : BitVec 32 := BitVec.ofNat 32 (i 0).val
  let v18 : Index := Scalar.indexCast arg0
  let c2 : Index := 2#32
  ![v18.toNat, 2]
def k0_off9 (i : grid0.Coords) : Fin 1 → Nat :=
  let arg0 : BitVec 32 := BitVec.ofNat 32 (i 0).val
  let c4_i32_2 : BitVec 32 := 4#32
  let c0_i32_3 : BitVec 32 := 0#32
  let v8 : BitVec 1 := Scalar.cmpi .eq c4_i32_2 c0_i32_3
  let c1_i32_4 : BitVec 32 := 1#32
  let v9 : BitVec 32 := Scalar.select v8 c1_i32_4 c4_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  ![v17.toNat]
def k0_off10 (i : grid0.Coords) : Fin 4 → Nat :=
  let arg0 : BitVec 32 := BitVec.ofNat 32 (i 0).val
  let c4_i32_2 : BitVec 32 := 4#32
  let c0_i32_3 : BitVec 32 := 0#32
  let v8 : BitVec 1 := Scalar.cmpi .eq c4_i32_2 c0_i32_3
  let c1_i32_4 : BitVec 32 := 1#32
  let v9 : BitVec 32 := Scalar.select v8 c1_i32_4 c4_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c0_i32_11 : BitVec 32 := 0#32
  let c0_i32_12 : BitVec 32 := 0#32
  let c0_i32_13 : BitVec 32 := 0#32
  ![v17.toNat, 0, 0, 0]
def k0_off11 (i : grid0.Coords) (v24 : BitVec 32) : Fin 4 → Nat :=
  let arg0 : BitVec 32 := BitVec.ofNat 32 (i 0).val
  let c0_i32_14 : BitVec 32 := 0#32
  let c0_i32_10 : BitVec 32 := 0#32
  let v25 : BitVec 32 := Scalar.maxsi v24 c0_i32_10
  let c26_i32 : BitVec 32 := 26#32
  let v26 : BitVec 32 := Scalar.minsi v25 c26_i32
  let c0_i32_15 : BitVec 32 := 0#32
  ![arg0.toNat, 0, v26.toNat, 0]

def k0_chk5 (i : grid0.Coords) (v24 : BitVec 32) : Prop :=
  (∀ a, (k0_off11 i v24) a + S1x128x24x50.size a ≤ S100x128x50x50.size a)
theorem k0_off11_inb : ∀ (i : grid0.Coords) (v24 : BitVec 32) (k0_hw5 : k0_chk5 i v24), ∀ a, (k0_off11 i v24) a + S1x128x24x50.size a ≤ S100x128x50x50.size a := fun i v24 k0_hw5 => k0_hw5

def k0_off12 (i : grid0.Coords) : Fin 2 → Nat :=
  let arg0 : BitVec 32 := BitVec.ofNat 32 (i 0).val
  let v33 : Index := Scalar.indexCast arg0
  let c0 : Index := 0#32
  ![v33.toNat, 0]
def k0_off13 (i : grid0.Coords) : Fin 2 → Nat :=
  let arg0 : BitVec 32 := BitVec.ofNat 32 (i 0).val
  let v36 : Index := Scalar.indexCast arg0
  let c1 : Index := 1#32
  ![v36.toNat, 1]
def k0_off14 (i : grid0.Coords) : Fin 2 → Nat :=
  let arg0 : BitVec 32 := BitVec.ofNat 32 (i 0).val
  let v39 : Index := Scalar.indexCast arg0
  let c2_17 : Index := 2#32
  ![v39.toNat, 2]
def k0_off15 (i : grid0.Coords) : Fin 2 → Nat :=
  let arg0 : BitVec 32 := BitVec.ofNat 32 (i 0).val
  let v42 : Index := Scalar.indexCast arg0
  let c3 : Index := 3#32
  ![v42.toNat, 3]
def k0_off16 (i : grid0.Coords) : Fin 2 → Nat :=
  let arg0 : BitVec 32 := BitVec.ofNat 32 (i 0).val
  let v45 : Index := Scalar.indexCast arg0
  let c4 : Index := 4#32
  ![v45.toNat, 4]
def k0_off17 (v35 : BitVec 32) (v60 : BitVec 32) : Fin 4 → Nat :=
  let v176 : Index := Scalar.indexCast v35
  let c0_58 : Index := 0#32
  let c0_i32_29 : BitVec 32 := 0#32
  let v61 : BitVec 32 := Scalar.maxsi v60 c0_i32_29
  let c26_i32_30 : BitVec 32 := 26#32
  let v62 : BitVec 32 := Scalar.minsi v61 c26_i32_30
  let v177 : Index := Scalar.indexCast v62
  let c0_59 : Index := 0#32
  ![v176.toNat, 0, v177.toNat, 0]

def k0_chk6 (v35 : BitVec 32) (v60 : BitVec 32) : Prop :=
  (∀ a, (k0_off17 v35 v60) a + S1x128x24x50.size a ≤ S2x128x50x50.size a)
theorem k0_off17_inb : ∀ (v35 : BitVec 32) (v60 : BitVec 32) (k0_hw6 : k0_chk6 v35 v60), ∀ a, (k0_off17 v35 v60) a + S1x128x24x50.size a ≤ S2x128x50x50.size a := fun v35 v60 k0_hw6 => k0_hw6

def k0_off18 (i : grid0.Coords) : Fin 4 → Nat :=
  let arg0 : BitVec 32 := BitVec.ofNat 32 (i 0).val
  let c4_i32_60 : BitVec 32 := 4#32
  let c0_i32_61 : BitVec 32 := 0#32
  let v180 : BitVec 1 := Scalar.cmpi .eq c4_i32_60 c0_i32_61
  let c1_i32_62 : BitVec 32 := 1#32
  let v181 : BitVec 32 := Scalar.select v180 c1_i32_62 c4_i32_60
  let v182 : BitVec 32 := Scalar.remsi arg0 v181
  let c0_i32_64 : BitVec 32 := 0#32
  let v184 : BitVec 1 := Scalar.cmpi .slt v182 c0_i32_64
  let c0_i32_65 : BitVec 32 := 0#32
  let v185 : BitVec 1 := Scalar.cmpi .slt v181 c0_i32_65
  let v186 : BitVec 1 := Scalar.xori v184 v185
  let c0_i32_63 : BitVec 32 := 0#32
  let v183 : BitVec 1 := Scalar.cmpi .ne v182 c0_i32_63
  let v187 : BitVec 1 := Scalar.andi v186 v183
  let v188 : BitVec 32 := Scalar.addi v182 v181
  let v189 : BitVec 32 := Scalar.select v187 v188 v182
  let v190 : Index := Scalar.indexCast v189
  let c0_66 : Index := 0#32
  let c0_67 : Index := 0#32
  let c0_68 : Index := 0#32
  ![v190.toNat, 0, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S100x5 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x128x50x50 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x49 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S2x128x50x50 : Shape := ⟨4, ![2, 128, 50, 50]⟩
abbrev S100x5 : Shape := ⟨2, ![100, 5]⟩
abbrev S100x128x50x50 : Shape := ⟨4, ![100, 128, 50, 50]⟩
abbrev S100x1 : Shape := ⟨2, ![100, 1]⟩
abbrev S100 : Shape := ⟨1, ![100]⟩
abbrev S_ : Shape := ⟨0, ![]⟩
abbrev S1 : Shape := ⟨1, ![1]⟩
abbrev S1x1 : Shape := ⟨2, ![1, 1]⟩
abbrev S100x4 : Shape := ⟨2, ![100, 4]⟩
abbrev S7 : Shape := ⟨1, ![7]⟩
abbrev S2 : Shape := ⟨1, ![2]⟩
abbrev S100x1x1 : Shape := ⟨3, ![100, 1, 1]⟩
abbrev S1x7x1 : Shape := ⟨3, ![1, 7, 1]⟩
abbrev S1x1x2 : Shape := ⟨3, ![1, 1, 2]⟩
abbrev S1x7x2 : Shape := ⟨3, ![1, 7, 2]⟩
abbrev S100x7x2 : Shape := ⟨3, ![100, 7, 2]⟩
abbrev S100x14 : Shape := ⟨2, ![100, 14]⟩
abbrev S100x14x1 : Shape := ⟨3, ![100, 14, 1]⟩
abbrev S100x1x14 : Shape := ⟨3, ![100, 1, 14]⟩
abbrev S100x14x14 : Shape := ⟨3, ![100, 14, 14]⟩
abbrev S100x14x14x1 : Shape := ⟨4, ![100, 14, 14, 1]⟩
abbrev S100x14x14x2 : Shape := ⟨4, ![100, 14, 14, 2]⟩
abbrev S100x128x14x14 : Shape := ⟨4, ![100, 128, 14, 14]⟩
abbrev S100x1x14x14 : Shape := ⟨4, ![100, 1, 14, 14]⟩
abbrev S100x128x7x2x7x2 : Shape := ⟨6, ![100, 128, 7, 2, 7, 2]⟩
abbrev S100x128x7x7 : Shape := ⟨4, ![100, 128, 7, 7]⟩
abbrev S100x128x49 : Shape := ⟨3, ![100, 128, 49]⟩

abbrev nBuf : Space → Nat
  | .hbm => 301
  | .vmem => 0
  | .smem => 0
  | _ => 0

abbrev hbmTy0_0 (i : Nat) : BufTy := match i % 128 with
  | 0 => ⟨S2x128x50x50, .f32⟩
  | 1 => ⟨S100x5, .f32⟩
  | 2 => ⟨S100x128x50x50, .f32⟩
  | 3 => ⟨S100x1, .f32⟩
  | 4 => ⟨S100, .f32⟩
  | 5 => ⟨S100, .i32⟩
  | 6 => ⟨S_, .i32⟩
  | 7 => ⟨S100, .i32⟩
  | 8 => ⟨S100, .i1⟩
  | 9 => ⟨S_, .i32⟩
  | 10 => ⟨S100, .i32⟩
  | 11 => ⟨S100, .i32⟩
  | 12 => ⟨S100, .i32⟩
  | 13 => ⟨S100x1, .i32⟩
  | 14 => ⟨S1, .i32⟩
  | 15 => ⟨S_, .i32⟩
  | 16 => ⟨S100x1, .i32⟩
  | 17 => ⟨S100x1, .i1⟩
  | 18 => ⟨S1x1, .i32⟩
  | 19 => ⟨S100x1, .i32⟩
  | 20 => ⟨S100x1, .i1⟩
  | 21 => ⟨S100x1, .i1⟩
  | 22 => ⟨S_, .i1⟩
  | 23 => ⟨S100, .i1⟩
  | 24 => ⟨S100x128x50x50, .f32⟩
  | 25 => ⟨S100x128x50x50, .i1⟩
  | 26 => ⟨S_, .f32⟩
  | 27 => ⟨S100x128x50x50, .f32⟩
  | 28 => ⟨S100x128x50x50, .f32⟩
  | 29 => ⟨S100x128x50x50, .f32⟩
  | 30 => ⟨S100x4, .f32⟩
  | 31 => ⟨S100x1, .f32⟩
  | 32 => ⟨S100, .f32⟩
  | 33 => ⟨S_, .f32⟩
  | 34 => ⟨S100, .f32⟩
  | 35 => ⟨S100, .f32⟩
  | 36 => ⟨S100x1, .f32⟩
  | 37 => ⟨S100, .f32⟩
  | 38 => ⟨S_, .f32⟩
  | 39 => ⟨S100, .f32⟩
  | 40 => ⟨S100, .f32⟩
  | 41 => ⟨S100x1, .f32⟩
  | 42 => ⟨S100, .f32⟩
  | 43 => ⟨S_, .f32⟩
  | 44 => ⟨S100, .f32⟩
  | 45 => ⟨S100, .f32⟩
  | 46 => ⟨S100x1, .f32⟩
  | 47 => ⟨S100, .f32⟩
  | 48 => ⟨S_, .f32⟩
  | 49 => ⟨S100, .f32⟩
  | 50 => ⟨S100, .f32⟩
  | 51 => ⟨S100, .f32⟩
  | 52 => ⟨S_, .f32⟩
  | 53 => ⟨S100, .f32⟩
  | 54 => ⟨S100, .f32⟩
  | 55 => ⟨S100, .f32⟩
  | 56 => ⟨S_, .f32⟩
  | 57 => ⟨S100, .f32⟩
  | 58 => ⟨S100, .f32⟩
  | 59 => ⟨S_, .f32⟩
  | 60 => ⟨S100, .f32⟩
  | 61 => ⟨S100, .f32⟩
  | 62 => ⟨S_, .f32⟩
  | 63 => ⟨S100, .f32⟩
  | 64 => ⟨S100, .f32⟩
  | 65 => ⟨S7, .f32⟩
  | 66 => ⟨S7, .f32⟩
  | 67 => ⟨S2, .f32⟩
  | 68 => ⟨S_, .f32⟩
  | 69 => ⟨S2, .f32⟩
  | 70 => ⟨S2, .f32⟩
  | 71 => ⟨S_, .f32⟩
  | 72 => ⟨S2, .f32⟩
  | 73 => ⟨S2, .f32⟩
  | 74 => ⟨S100x1x1, .f32⟩
  | 75 => ⟨S1x7x1, .f32⟩
  | 76 => ⟨S1x1x2, .f32⟩
  | 77 => ⟨S1x7x2, .f32⟩
  | 78 => ⟨S1x7x2, .f32⟩
  | 79 => ⟨S1x7x2, .f32⟩
  | 80 => ⟨S100x1x1, .f32⟩
  | 81 => ⟨S100x7x2, .f32⟩
  | 82 => ⟨S100x7x2, .f32⟩
  | 83 => ⟨S100x7x2, .f32⟩
  | 84 => ⟨S100x7x2, .f32⟩
  | 85 => ⟨S100x7x2, .f32⟩
  | 86 => ⟨S100x1x1, .f32⟩
  | 87 => ⟨S1x7x1, .f32⟩
  | 88 => ⟨S1x1x2, .f32⟩
  | 89 => ⟨S1x7x2, .f32⟩
  | 90 => ⟨S1x7x2, .f32⟩
  | 91 => ⟨S1x7x2, .f32⟩
  | 92 => ⟨S100x1x1, .f32⟩
  | 93 => ⟨S100x7x2, .f32⟩
  | 94 => ⟨S100x7x2, .f32⟩
  | 95 => ⟨S100x7x2, .f32⟩
  | 96 => ⟨S100x7x2, .f32⟩
  | 97 => ⟨S100x7x2, .f32⟩
  | 98 => ⟨S100x14, .f32⟩
  | 99 => ⟨S100x14, .f32⟩
  | 100 => ⟨S_, .f32⟩
  | 101 => ⟨S100x14, .f32⟩
  | 102 => ⟨S100x14, .i1⟩
  | 103 => ⟨S_, .f32⟩
  | 104 => ⟨S100x14, .f32⟩
  | 105 => ⟨S100x14, .i1⟩
  | 106 => ⟨S100x14, .i1⟩
  | 107 => ⟨S_, .f32⟩
  | 108 => ⟨S100x14, .f32⟩
  | 109 => ⟨S100x14, .i1⟩
  | 110 => ⟨S_, .f32⟩
  | 111 => ⟨S100x14, .f32⟩
  | 112 => ⟨S100x14, .i1⟩
  | 113 => ⟨S100x14, .i1⟩
  | 114 => ⟨S_, .f32⟩
  | 115 => ⟨S100x14, .f32⟩
  | 116 => ⟨S100x14, .f32⟩
  | 117 => ⟨S_, .f32⟩
  | 118 => ⟨S100x14, .f32⟩
  | 119 => ⟨S100x14, .f32⟩
  | 120 => ⟨S100x14, .f32⟩
  | 121 => ⟨S100x14, .i32⟩
  | 122 => ⟨S_, .i32⟩
  | 123 => ⟨S100x14, .i32⟩
  | 124 => ⟨S100x14, .i32⟩
  | 125 => ⟨S100x14, .f32⟩
  | 126 => ⟨S100x14, .i32⟩
  | 127 => ⟨S_, .i32⟩
  | _ => ⟨S2x128x50x50, .f32⟩

abbrev hbmTy0_1 (i : Nat) : BufTy := match i % 128 with
  | 0 => ⟨S100x14, .i32⟩
  | 1 => ⟨S100x14, .i32⟩
  | 2 => ⟨S_, .i32⟩
  | 3 => ⟨S100x14, .i32⟩
  | 4 => ⟨S100x14, .i32⟩
  | 5 => ⟨S_, .i32⟩
  | 6 => ⟨S100x14, .i32⟩
  | 7 => ⟨S100x14, .i32⟩
  | 8 => ⟨S_, .i32⟩
  | 9 => ⟨S100x14, .i32⟩
  | 10 => ⟨S100x14, .i32⟩
  | 11 => ⟨S_, .i32⟩
  | 12 => ⟨S100x14, .i32⟩
  | 13 => ⟨S100x14, .i32⟩
  | 14 => ⟨S_, .i32⟩
  | 15 => ⟨S100x14, .i32⟩
  | 16 => ⟨S100x14, .i1⟩
  | 17 => ⟨S100x14, .f32⟩
  | 18 => ⟨S100x14, .f32⟩
  | 19 => ⟨S_, .i32⟩
  | 20 => ⟨S100x14, .i32⟩
  | 21 => ⟨S100x14, .i1⟩
  | 22 => ⟨S100x14, .f32⟩
  | 23 => ⟨S100x14, .f32⟩
  | 24 => ⟨S100x14, .f32⟩
  | 25 => ⟨S100x14, .f32⟩
  | 26 => ⟨S100x14, .f32⟩
  | 27 => ⟨S100x14, .f32⟩
  | 28 => ⟨S_, .f32⟩
  | 29 => ⟨S100x14, .f32⟩
  | 30 => ⟨S100x14, .f32⟩
  | 31 => ⟨S_, .f32⟩
  | 32 => ⟨S100x14, .f32⟩
  | 33 => ⟨S100x14, .f32⟩
  | 34 => ⟨S100x14x1, .i32⟩
  | 35 => ⟨S100x1x14, .i32⟩
  | 36 => ⟨S_, .i32⟩
  | 37 => ⟨S100x14x1, .i32⟩
  | 38 => ⟨S100x14x1, .i1⟩
  | 39 => ⟨S_, .i32⟩
  | 40 => ⟨S100x14x1, .i32⟩
  | 41 => ⟨S100x14x1, .i32⟩
  | 42 => ⟨S100x14x1, .i32⟩
  | 43 => ⟨S_, .i32⟩
  | 44 => ⟨S100x1x14, .i32⟩
  | 45 => ⟨S100x1x14, .i1⟩
  | 46 => ⟨S_, .i32⟩
  | 47 => ⟨S100x1x14, .i32⟩
  | 48 => ⟨S100x1x14, .i32⟩
  | 49 => ⟨S100x1x14, .i32⟩
  | 50 => ⟨S100x14x14, .i32⟩
  | 51 => ⟨S100x14x14, .i32⟩
  | 52 => ⟨S100x14x14x1, .i32⟩
  | 53 => ⟨S100x14x14x1, .i32⟩
  | 54 => ⟨S100x14x14x2, .i32⟩
  | 55 => ⟨S100x128x14x14, .f32⟩
  | 56 => ⟨S100x14x1, .f32⟩
  | 57 => ⟨S100x1x14, .f32⟩
  | 58 => ⟨S100x14x14, .f32⟩
  | 59 => ⟨S100x14x14, .f32⟩
  | 60 => ⟨S100x14x14, .f32⟩
  | 61 => ⟨S100x1x14x14, .f32⟩
  | 62 => ⟨S100x128x14x14, .f32⟩
  | 63 => ⟨S100x128x14x14, .f32⟩
  | 64 => ⟨S100x14x1, .i32⟩
  | 65 => ⟨S100x1x14, .i32⟩
  | 66 => ⟨S_, .i32⟩
  | 67 => ⟨S100x14x1, .i32⟩
  | 68 => ⟨S100x14x1, .i1⟩
  | 69 => ⟨S_, .i32⟩
  | 70 => ⟨S100x14x1, .i32⟩
  | 71 => ⟨S100x14x1, .i32⟩
  | 72 => ⟨S100x14x1, .i32⟩
  | 73 => ⟨S_, .i32⟩
  | 74 => ⟨S100x1x14, .i32⟩
  | 75 => ⟨S100x1x14, .i1⟩
  | 76 => ⟨S_, .i32⟩
  | 77 => ⟨S100x1x14, .i32⟩
  | 78 => ⟨S100x1x14, .i32⟩
  | 79 => ⟨S100x1x14, .i32⟩
  | 80 => ⟨S100x14x14, .i32⟩
  | 81 => ⟨S100x14x14, .i32⟩
  | 82 => ⟨S100x14x14x1, .i32⟩
  | 83 => ⟨S100x14x14x1, .i32⟩
  | 84 => ⟨S100x14x14x2, .i32⟩
  | 85 => ⟨S100x128x14x14, .f32⟩
  | 86 => ⟨S100x14x1, .f32⟩
  | 87 => ⟨S100x1x14, .f32⟩
  | 88 => ⟨S100x14x14, .f32⟩
  | 89 => ⟨S100x14x14, .f32⟩
  | 90 => ⟨S100x14x14, .f32⟩
  | 91 => ⟨S100x1x14x14, .f32⟩
  | 92 => ⟨S100x128x14x14, .f32⟩
  | 93 => ⟨S100x128x14x14, .f32⟩
  | 94 => ⟨S100x128x14x14, .f32⟩
  | 95 => ⟨S100x14x1, .i32⟩
  | 96 => ⟨S100x1x14, .i32⟩
  | 97 => ⟨S_, .i32⟩
  | 98 => ⟨S100x14x1, .i32⟩
  | 99 => ⟨S100x14x1, .i1⟩
  | 100 => ⟨S_, .i32⟩
  | 101 => ⟨S100x14x1, .i32⟩
  | 102 => ⟨S100x14x1, .i32⟩
  | 103 => ⟨S100x14x1, .i32⟩
  | 104 => ⟨S_, .i32⟩
  | 105 => ⟨S100x1x14, .i32⟩
  | 106 => ⟨S100x1x14, .i1⟩
  | 107 => ⟨S_, .i32⟩
  | 108 => ⟨S100x1x14, .i32⟩
  | 109 => ⟨S100x1x14, .i32⟩
  | 110 => ⟨S100x1x14, .i32⟩
  | 111 => ⟨S100x14x14, .i32⟩
  | 112 => ⟨S100x14x14, .i32⟩
  | 113 => ⟨S100x14x14x1, .i32⟩
  | 114 => ⟨S100x14x14x1, .i32⟩
  | 115 => ⟨S100x14x14x2, .i32⟩
  | 116 => ⟨S100x128x14x14, .f32⟩
  | 117 => ⟨S100x14x1, .f32⟩
  | 118 => ⟨S100x1x14, .f32⟩
  | 119 => ⟨S100x14x14, .f32⟩
  | 120 => ⟨S100x14x14, .f32⟩
  | 121 => ⟨S100x14x14, .f32⟩
  | 122 => ⟨S100x1x14x14, .f32⟩
  | 123 => ⟨S100x128x14x14, .f32⟩
  | 124 => ⟨S100x128x14x14, .f32⟩
  | 125 => ⟨S100x128x14x14, .f32⟩
  | 126 => ⟨S100x14x1, .i32⟩
  | 127 => ⟨S100x1x14, .i32⟩
  | _ => ⟨S2x128x50x50, .f32⟩

abbrev hbmTy0_2 (i : Nat) : BufTy := match i % 128 with
  | 0 => ⟨S_, .i32⟩
  | 1 => ⟨S100x14x1, .i32⟩
  | 2 => ⟨S100x14x1, .i1⟩
  | 3 => ⟨S_, .i32⟩
  | 4 => ⟨S100x14x1, .i32⟩
  | 5 => ⟨S100x14x1, .i32⟩
  | 6 => ⟨S100x14x1, .i32⟩
  | 7 => ⟨S_, .i32⟩
  | 8 => ⟨S100x1x14, .i32⟩
  | 9 => ⟨S100x1x14, .i1⟩
  | 10 => ⟨S_, .i32⟩
  | 11 => ⟨S100x1x14, .i32⟩
  | 12 => ⟨S100x1x14, .i32⟩
  | 13 => ⟨S100x1x14, .i32⟩
  | 14 => ⟨S100x14x14, .i32⟩
  | 15 => ⟨S100x14x14, .i32⟩
  | 16 => ⟨S100x14x14x1, .i32⟩
  | 17 => ⟨S100x14x14x1, .i32⟩
  | 18 => ⟨S100x14x14x2, .i32⟩
  | 19 => ⟨S100x128x14x14, .f32⟩
  | 20 => ⟨S100x14x1, .f32⟩
  | 21 => ⟨S100x1x14, .f32⟩
  | 22 => ⟨S100x14x14, .f32⟩
  | 23 => ⟨S100x14x14, .f32⟩
  | 24 => ⟨S100x14x14, .f32⟩
  | 25 => ⟨S100x1x14x14, .f32⟩
  | 26 => ⟨S100x128x14x14, .f32⟩
  | 27 => ⟨S100x128x14x14, .f32⟩
  | 28 => ⟨S100x128x14x14, .f32⟩
  | 29 => ⟨S100x14x1, .i1⟩
  | 30 => ⟨S100x1x14, .i1⟩
  | 31 => ⟨S100x14x14, .i1⟩
  | 32 => ⟨S100x14x14, .i1⟩
  | 33 => ⟨S100x14x14, .i1⟩
  | 34 => ⟨S100x1x14x14, .i1⟩
  | 35 => ⟨S100x1x14x14, .f32⟩
  | 36 => ⟨S100x128x14x14, .f32⟩
  | 37 => ⟨S100x128x14x14, .f32⟩
  | 38 => ⟨S100x128x7x2x7x2, .f32⟩
  | 39 => ⟨S_, .f32⟩
  | 40 => ⟨S100x128x7x7, .f32⟩
  | 41 => ⟨S_, .f32⟩
  | 42 => ⟨S100x128x7x7, .f32⟩
  | 43 => ⟨S100x128x7x7, .f32⟩
  | 44 => ⟨S100x128x49, .f32⟩
  | _ => ⟨S2x128x50x50, .f32⟩

abbrev hbmTy (i : Nat) : BufTy := match i / 128 with
  | 0 => hbmTy0_0 i
  | 1 => hbmTy0_1 i
  | 2 => hbmTy0_2 i
  | _ => ⟨S2x128x50x50, .f32⟩

abbrev bufTy : (tb : Table) → Fin (tcTables nBuf tb) → BufTy
  | .hbm, ⟨i, _⟩ => hbmTy i
  | _, _ => ⟨S2x128x50x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst_0 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_1 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_2 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst_3 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_4 : Ref sig .tc := ⟨.hbm, 56, rfl⟩
abbrev main_v26 : Ref sig .tc := ⟨.hbm, 57, rfl⟩
abbrev main_v27 : Ref sig .tc := ⟨.hbm, 58, rfl⟩
abbrev main_cst_5 : Ref sig .tc := ⟨.hbm, 59, rfl⟩
abbrev main_v28 : Ref sig .tc := ⟨.hbm, 60, rfl⟩
abbrev main_v29 : Ref sig .tc := ⟨.hbm, 61, rfl⟩
abbrev main_cst_6 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_7 : Ref sig .tc := ⟨.hbm, 68, rfl⟩
abbrev main_v35 : Ref sig .tc := ⟨.hbm, 69, rfl⟩
abbrev main_v36 : Ref sig .tc := ⟨.hbm, 70, rfl⟩
abbrev main_cst_8 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_9 : Ref sig .tc := ⟨.hbm, 100, rfl⟩
abbrev main_v65 : Ref sig .tc := ⟨.hbm, 101, rfl⟩
abbrev main_v66 : Ref sig .tc := ⟨.hbm, 102, rfl⟩
abbrev main_cst_10 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_11 : Ref sig .tc := ⟨.hbm, 107, rfl⟩
abbrev main_v70 : Ref sig .tc := ⟨.hbm, 108, rfl⟩
abbrev main_v71 : Ref sig .tc := ⟨.hbm, 109, rfl⟩
abbrev main_cst_12 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_13 : Ref sig .tc := ⟨.hbm, 114, rfl⟩
abbrev main_v75 : Ref sig .tc := ⟨.hbm, 115, rfl⟩
abbrev main_v76 : Ref sig .tc := ⟨.hbm, 116, rfl⟩
abbrev main_cst_14 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_c : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_c_15 : Ref sig .tc := ⟨.hbm, 127, rfl⟩
abbrev main_v85 : Ref sig .tc := ⟨.hbm, 128, rfl⟩
abbrev main_v86 : Ref sig .tc := ⟨.hbm, 129, rfl⟩
abbrev main_c_16 : Ref sig .tc := ⟨.hbm, 130, rfl⟩
abbrev main_v87 : Ref sig .tc := ⟨.hbm, 131, rfl⟩
abbrev main_v88 : Ref sig .tc := ⟨.hbm, 132, rfl⟩
abbrev main_c_17 : Ref sig .tc := ⟨.hbm, 133, rfl⟩
abbrev main_v89 : Ref sig .tc := ⟨.hbm, 134, rfl⟩
abbrev main_v90 : Ref sig .tc := ⟨.hbm, 135, rfl⟩
abbrev main_c_18 : Ref sig .tc := ⟨.hbm, 136, rfl⟩
abbrev main_v91 : Ref sig .tc := ⟨.hbm, 137, rfl⟩
abbrev main_v92 : Ref sig .tc := ⟨.hbm, 138, rfl⟩
abbrev main_c_19 : Ref sig .tc := ⟨.hbm, 139, rfl⟩
abbrev main_v93 : Ref sig .tc := ⟨.hbm, 140, rfl⟩
abbrev main_v94 : Ref sig .tc := ⟨.hbm, 141, rfl⟩
abbrev main_c_20 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_c_21 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_cst_22 : Ref sig .tc := ⟨.hbm, 156, rfl⟩
abbrev main_v107 : Ref sig .tc := ⟨.hbm, 157, rfl⟩
abbrev main_v108 : Ref sig .tc := ⟨.hbm, 158, rfl⟩
abbrev main_cst_23 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_c_24 : Ref sig .tc := ⟨.hbm, 164, rfl⟩
abbrev main_v113 : Ref sig .tc := ⟨.hbm, 165, rfl⟩
abbrev main_v114 : Ref sig .tc := ⟨.hbm, 166, rfl⟩
abbrev main_c_25 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_c_26 : Ref sig .tc := ⟨.hbm, 171, rfl⟩
abbrev main_v118 : Ref sig .tc := ⟨.hbm, 172, rfl⟩
abbrev main_v119 : Ref sig .tc := ⟨.hbm, 173, rfl⟩
abbrev main_c_27 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_c_28 : Ref sig .tc := ⟨.hbm, 194, rfl⟩
abbrev main_v139 : Ref sig .tc := ⟨.hbm, 195, rfl⟩
abbrev main_v140 : Ref sig .tc := ⟨.hbm, 196, rfl⟩
abbrev main_c_29 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_c_30 : Ref sig .tc := ⟨.hbm, 201, rfl⟩
abbrev main_v144 : Ref sig .tc := ⟨.hbm, 202, rfl⟩
abbrev main_v145 : Ref sig .tc := ⟨.hbm, 203, rfl⟩
abbrev main_c_31 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_c_32 : Ref sig .tc := ⟨.hbm, 225, rfl⟩
abbrev main_v166 : Ref sig .tc := ⟨.hbm, 226, rfl⟩
abbrev main_v167 : Ref sig .tc := ⟨.hbm, 227, rfl⟩
abbrev main_c_33 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_c_34 : Ref sig .tc := ⟨.hbm, 232, rfl⟩
abbrev main_v171 : Ref sig .tc := ⟨.hbm, 233, rfl⟩
abbrev main_v172 : Ref sig .tc := ⟨.hbm, 234, rfl⟩
abbrev main_c_35 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_c_36 : Ref sig .tc := ⟨.hbm, 256, rfl⟩
abbrev main_v193 : Ref sig .tc := ⟨.hbm, 257, rfl⟩
abbrev main_v194 : Ref sig .tc := ⟨.hbm, 258, rfl⟩
abbrev main_c_37 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_c_38 : Ref sig .tc := ⟨.hbm, 263, rfl⟩
abbrev main_v198 : Ref sig .tc := ⟨.hbm, 264, rfl⟩
abbrev main_v199 : Ref sig .tc := ⟨.hbm, 265, rfl⟩
abbrev main_c_39 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_v212 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩
abbrev main_v227 : Ref sig .tc := ⟨.hbm, 294, rfl⟩
abbrev main_cst_40 : Ref sig .tc := ⟨.hbm, 295, rfl⟩
abbrev main_v228 : Ref sig .tc := ⟨.hbm, 296, rfl⟩
abbrev main_cst_41 : Ref sig .tc := ⟨.hbm, 297, rfl⟩
abbrev main_v229 : Ref sig .tc := ⟨.hbm, 298, rfl⟩
abbrev main_v230 : Ref sig .tc := ⟨.hbm, 299, rfl⟩
abbrev main_v231 : Ref sig .tc := ⟨.hbm, 300, rfl⟩

abbrev nD : Nat := 1
abbrev τ : Topo := Topo.v7x

variable {F : FTy → Type} [FloatOps F]
-- ==== Proof.Window.lean ====
/- The window of mask rows that a box names, and the body's offsets in closed form: which rows of a
   mask block a transfer copies (`top`), the box words the body reads (`rowWord`), and the facts of
   32-bit arithmetic that say each offset the body computes is the one the pipeline's ring expects. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Ring.AtN
public import Idealize.ShloMosaic.Lib.Tactic
public import Idealize.ShloMosaic.Lib.WordCmp
public import Idealize.ShloMosaic.Lib.WholeRead

@[expose] public section

set_option maxRecDepth 16384

noncomputable section

namespace Cert.KernelIdeal.Roi

open Cert.KernelIdeal Cert.KernelIdeal.Gen
open Idealize.ShloMosaic Idealize.ShloMosaic.TcCoe

variable {F : FTy → Type} [FloatOps F]

/-- The grid has points. -/
instance : NeZero grid0.N := ⟨by rw [N_0]; decide⟩

/-! ## The window's first row -/

/-- The first row of the window that a row word names: the word, kept between 0 and 26. -/
def top (w : BitVec 32) : Nat := (Scalar.minsi (Scalar.maxsi w 0#32) 26#32).toNat

/-- Whatever the word, the 24 rows from `top` on are rows of a 50-row block. -/
theorem top_le (w : BitVec 32) : top w ≤ 26 := by
  have h : ∀ v : BitVec 32, 0 ≤ v.toInt → v.toInt ≤ 26 → v.toNat ≤ 26 := by
    intro v h0 h1
    rw [BitVec.toInt_eq_toNat_cond] at h0 h1
    split at h0 <;> omega
  unfold top
  have z : (0#32 : BitVec 32).toInt = 0 := rfl
  have k : (26#32 : BitVec 32).toInt = 26 := rfl
  apply h <;> simp only [Scalar.minsi, Scalar.maxsi, IntOp.minsi, IntOp.maxsi, BitVec.slt, decide_eq_true_eq] <;>
    split <;> split <;> simp_all <;> omega

/-- Entry `k` of box `b`, as an index of the boxes array. -/
def boxAt (b : Fin 100) (k : Fin 5) : S100x5.Idx :=
  fun a => ⟨(![b.val, k.val] : Fin 2 → Nat) a, by
    have := b.isLt; have := k.isLt; fin_cases a <;> simp <;> omega⟩

/-- The row word of box `b`: its scaled top edge, clipped to [0, 49], floored, as an integer. -/
def rowWord (x0 : Vec F S100x5 .f32) (b : Fin 100) : BitVec 32 := Scalar.fptosi 32 (k0_pay6 (x0 (boxAt b 2)))

/-- Box `b`'s window of a 50-row mask block is inside the mask array. -/
theorem inb_source (b : Fin 100) (w : BitVec 32) :
    ∀ a, (![b.val, 0, top w, 0] : Fin 4 → Nat) a + S1x128x24x50.size a ≤ S100x128x50x50.size a := by
  have := b.isLt; have := top_le w; intro a; fin_cases a <;> simp <;> omega

/-! ## The body's offsets -/

/-- A read of one box entry through the whole boxes array gives that entry. -/
theorem box_read (arg1 : Memref sig .tc .smem S100x5 .f32) (harg1 : arg1.IsWhole) (x0 : Vec F S100x5 .f32)
    (b : Fin 100) (k : Fin 5) (off : Fin 2 → Nat) (h : off = ![b.val, k.val])
    (inb : ∀ a, off a + S1x1.size a ≤ S100x5.size a) (y : (Rect.unit (s := S100x5) off S1x1.size inb).shape.Idx) :
    arg1.view.readAt (Elt F) (Rect.unit (s := S100x5) off S1x1.size inb) (harg1.unread x0) y = x0 (boxAt b k) := by
  rw [harg1.readAt_unread]
  congr 1
  subst h
  funext a
  apply Fin.ext
  have hy : (y a).val = 0 := by
    have h1 : (y a).val < 1 := by
      have := (y a).isLt
      fin_cases a <;> exact this
    omega
  have e : ((Rect.unit (s := S100x5) ![b.val, k.val] S1x1.size inb).emb y a).val = (![b.val, k.val] : Fin 2 → Nat) a + (y a).val := by
    simp [Rect.unit, Rect.emb]
  exact e.trans (by rw [hy]; rfl)

/-- A read of one box entry, in the body's spelling of the entry's index. -/
abbrev entry (arg1 : Memref sig .tc .smem S100x5 .f32) (harg1 : arg1.IsWhole) (x0 : Vec F S100x5 .f32)
    (off : Fin 2 → Nat) (h : ∀ a, off a + S1x1.size a ≤ S100x5.size a) : F .f32 :=
  arg1.view.readAt (Elt F) (Rect.unit (s := S100x5) off S1x1.size h) (harg1.unread x0)
    (Shape.Idx.first (numel1_S1x1.symm ▸ Nat.one_pos))

/-- The entry read is that of the box and column that the index names. -/
theorem entry_eq (arg1 : Memref sig .tc .smem S100x5 .f32) (harg1 : arg1.IsWhole) (x0 : Vec F S100x5 .f32)
    {b : Fin 100} {k : Fin 5} {off : Fin 2 → Nat} (e : off = ![b.val, k.val]) (h : ∀ a, off a + S1x1.size a ≤ S100x5.size a) :
    entry arg1 harg1 x0 off h = x0 (boxAt b k) :=
  box_read arg1 harg1 x0 b k off e h _

/-- The three starts of the first step: blocks 0, 1 and 2. -/
theorem off1_eq (w : BitVec 32) : k0_off1 w = ![(0 : Fin 100).val, 0, top w, 0] := rfl
/-- Block 1. -/
theorem off2_eq (w : BitVec 32) : k0_off2 w = ![(1 : Fin 100).val, 0, top w, 0] := rfl
/-- Block 2. -/
theorem off3_eq (w : BitVec 32) : k0_off3 w = ![(2 : Fin 100).val, 0, top w, 0] := rfl

/-- The row entry of the box three ahead. -/
theorem off4_eq : ∀ t : Fin grid0.N, k0_cond2 (grid0.coords t) = 1#1 →
    k0_off4 (grid0.coords t) = ![(Ring.bk 100 (t.val + 3)).val, (2 : Fin 5).val] := by decide +kernel
/-- The semaphore of the slot three ahead, -/
theorem off5_eq : ∀ t : Fin grid0.N, k0_off5 (grid0.coords t) = ![(Ring.sl 4 (t.val + 3)).val] := by decide +kernel
/-- and the slot itself. -/
theorem off6_eq : ∀ t : Fin grid0.N, k0_off6 (grid0.coords t) = ![(Ring.sl 4 (t.val + 3)).val, 0, 0, 0] := by decide +kernel
/-- The row entry of the step's own box. -/
theorem off8_eq : ∀ t : Fin grid0.N, k0_off8 (grid0.coords t) = ![(Ring.bk 100 t.val).val, (2 : Fin 5).val] := by decide +kernel
/-- The semaphore of the step's own slot, -/
theorem off9_eq : ∀ t : Fin grid0.N, k0_off9 (grid0.coords t) = ![(Ring.sl 4 t.val).val] := by decide +kernel
/-- and the slot itself. -/
theorem off10_eq : ∀ t : Fin grid0.N, k0_off10 (grid0.coords t) = ![(Ring.sl 4 t.val).val, 0, 0, 0] := by decide +kernel
/-- The batch entry of the step's box, -/
theorem off12_eq : ∀ t : Fin grid0.N, k0_off12 (grid0.coords t) = ![(Ring.bk 100 t.val).val, (0 : Fin 5).val] := by decide +kernel
/-- its left edge, -/
theorem off13_eq : ∀ t : Fin grid0.N, k0_off13 (grid0.coords t) = ![(Ring.bk 100 t.val).val, (1 : Fin 5).val] := by decide +kernel
/-- its upper edge, -/
theorem off14_eq : ∀ t : Fin grid0.N, k0_off14 (grid0.coords t) = ![(Ring.bk 100 t.val).val, (2 : Fin 5).val] := by decide +kernel
/-- its right edge -/
theorem off15_eq : ∀ t : Fin grid0.N, k0_off15 (grid0.coords t) = ![(Ring.bk 100 t.val).val, (3 : Fin 5).val] := by decide +kernel
/-- and its lower edge. -/
theorem off16_eq : ∀ t : Fin grid0.N, k0_off16 (grid0.coords t) = ![(Ring.bk 100 t.val).val, (4 : Fin 5).val] := by decide +kernel
/-- The slot that the step reads. -/
theorem off18_eq : ∀ t : Fin grid0.N, k0_off18 (grid0.coords t) = ![(Ring.sl 4 t.val).val, 0, 0, 0] := by decide +kernel

/-- The mask block three ahead, from the row its word names. -/
theorem off7_eq (t : Fin grid0.N) (h : k0_cond2 (grid0.coords t) = 1#1) (w : BitVec 32) :
    k0_off7 (grid0.coords t) w = ![(Ring.bk 100 (t.val + 3)).val, 0, top w, 0] :=
  congrArg (fun n : Nat => (![n, 0, top w, 0] : Fin 4 → Nat)) (congrFun (off4_eq t h) 0)
/-- The step's own mask block, from the row its word names. -/
theorem off11_eq (t : Fin grid0.N) (w : BitVec 32) :
    k0_off11 (grid0.coords t) w = ![(Ring.bk 100 t.val).val, 0, top w, 0] :=
  congrArg (fun n : Nat => (![n, 0, top w, 0] : Fin 4 → Nat)) (congrFun (off8_eq t) 0)

/-! ## The side conditions the body assumes -/

/-- The first copy of the first step lies inside the masks, -/
theorem chk1_all (i : grid0.Coords) (w : BitVec 32) : k0_chk1 i w := fun _ => by rw [off1_eq]; exact inb_source _ _
/-- the second -/
theorem chk2_all (i : grid0.Coords) (w : BitVec 32) : k0_chk2 i w := fun _ => by rw [off2_eq]; exact inb_source _ _
/-- and the third. -/
theorem chk3_all (i : grid0.Coords) (w : BitVec 32) : k0_chk3 i w := fun _ => by rw [off3_eq]; exact inb_source _ _
/-- The copy three ahead lies inside them, -/
theorem chk4_all (t : Fin grid0.N) (w : BitVec 32) : k0_chk4 (grid0.coords t) w := fun h => by rw [off7_eq t h]; exact inb_source _ _
/-- and the step's own. -/
theorem chk5_all (t : Fin grid0.N) (w : BitVec 32) : k0_chk5 (grid0.coords t) w := by unfold k0_chk5; rw [off11_eq]; exact inb_source _ _
/-- A batch word 0 or 1 keeps the feature window inside the two feature maps. -/
theorem chk6_of (v w : BitVec 32) (hv : v.toNat < 2) : k0_chk6 v w := by
  have e : k0_off17 v w = ![v.toNat, 0, top w, 0] := rfl
  have := top_le w
  unfold k0_chk6; rw [e]
  intro a; fin_cases a <;> simp <;> omega

/-- The batch word of every box is 0 or 1. -/
def BatchOk (x0 : Vec F S100x5 .f32) : Prop := ∀ b : Fin 100, (Scalar.fptosi 32 (x0 (boxAt b 0)) : BitVec 32).toNat < 2

/-- So the window of the box's feature map, at whatever row, is inside the two feature maps. -/
theorem checked (t : Fin grid0.N) (arg1 : Memref sig .tc .smem S100x5 .f32) (harg1 : arg1.IsWhole) (x0 : Vec F S100x5 .f32)
    (hx : BatchOk x0) (w : BitVec 32) :
    k0_chk6 (Scalar.fptosi 32 (entry arg1 harg1 x0 (k0_off12 (grid0.coords t)) (k0_off12_inb _))) w :=
  chk6_of _ w (by rw [entry_eq arg1 harg1 x0 (off12_eq t)]; exact hx _)

end Cert.KernelIdeal.Roi

end
-- ==== Proof.Ring.lean ====
/- The ring of mask windows. The kernel streams one window of each box's mask through the four slots of
   a scratch buffer, three boxes ahead. Each slot owns a quarter share of the whole mask array, so that a
   transfer may borrow the rows its box names whatever rows the transfers beside it read. This module
   names the pieces (slots, cells, sources, flights), says how the launch's buffers become the ring and
   come back, and gives the body's spellings of a slot, a cell or a source their ring names. -/
module

public import proofs.«01_k».proof.Proof.Window

@[expose] public section

set_option maxRecDepth 16384

noncomputable section

namespace Cert.KernelIdeal.Roi

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Slots, cells and sources -/

/-- The scratch buffer, whole. -/
abbrev scratch : Memref sig .tc .vmem S4x128x24x50 .f32 := Memref.whole cc0_scratch0
/-- The mask array, whole. -/
abbrev masks : Memref sig .tc .hbm S100x128x50x50 .f32 := Memref.whole main_arg2
/-- The contents of a memref's buffer on core `c`. -/
abbrev Held (c : Dev nD) {sp : Space} {S : Shape} {e : EltTy} (M : Memref sig .tc sp S e) : Type :=
  Buf (Elt F) (M.view.loc (c : Thread nD τ))

/-- A slot lies inside the scratch buffer, -/
theorem inb_slot (s : Fin 4) : ∀ a, (![s.val, 0, 0, 0] : Fin 4 → Nat) a + S1x128x24x50.size a ≤ S4x128x24x50.size a := by
  have := s.isLt; intro a; fin_cases a <;> simp <;> omega
/-- and its semaphore inside the array of four. -/
theorem inb_cell (s : Fin 4) : ∀ a, (![s.val] : Fin 1 → Nat) a + S1.size a ≤ S4.size a := by
  have := s.isLt; intro a; fin_cases a <;> simp <;> omega

/-- Slot `s` of the scratch buffer. -/
def slot (s : Fin 4) : Memref sig .tc .vmem S128x24x50 .f32 :=
  (scratch.slice (Rect.unit (s := S4x128x24x50) ![s.val, 0, 0, 0] S1x128x24x50.size (inb_slot s)) (fun _ => rfl)).squeeze S128x24x50 squeezes_S1x128x24x50_S128x24x50
/-- Cell `s` of the transfer semaphores. -/
def cell (s : Fin 4) : DmaSems sig S_ :=
  (cc0_scratch1.slice (Rect.unit (s := S4) ![s.val] S1.size (inb_cell s))).squeeze S_ squeezes_S1_S_
/-- The semaphore of a slot, by its place among the machine's. -/
abbrev cellLoc (s : Fin 4) : SemLoc sig := SemLoc.dma (cell s).sem
/-- Slot 0 has semaphore 4, -/
theorem cellLoc_0 : cellLoc 0 = SemLoc.dma 4 := by decide
/-- slot 1 semaphore 5, -/
theorem cellLoc_1 : cellLoc 1 = SemLoc.dma 5 := by decide
/-- slot 2 semaphore 6 -/
theorem cellLoc_2 : cellLoc 2 = SemLoc.dma 6 := by decide
/-- and slot 3 semaphore 7. -/
theorem cellLoc_3 : cellLoc 3 = SemLoc.dma 7 := by decide
/-- The window of box `b`'s mask: the 24 rows from the row that the box's word names. -/
def source (x0 : Vec F S100x5 .f32) (b : Fin 100) : Memref sig .tc .hbm S128x24x50 .f32 :=
  (masks.slice (Rect.unit (s := S100x128x50x50) ![b.val, 0, top (rowWord x0 b), 0] S1x128x24x50.size (inb_source b _)) (fun _ => rfl)).squeeze S128x24x50 squeezes_S1x128x24x50_S128x24x50

/-! ## The ring's families -/

section Families
variable (c : Dev nD) (x0 : Vec F S100x5 .f32) (W : Held (F := F) c masks)

/-- The share of the mask array that slot `s` owns: the full share halved three times on the right. -/
abbrev part (s : Fin 4) : PosShare TreeShare :=
  if s.val = 0 then fullShare.left else if s.val = 1 then fullShare.right.left
  else if s.val = 2 then fullShare.right.right.left else fullShare.right.right.right
/-- Slot `s` held at contents `f`. -/
abbrev slotAt (s : Fin 4) (f : Held (F := F) c (slot s)) : sProp 𝕄 :=
  (slot s).view.loc (c : Thread nD τ) ↦[(slot s).view.set]{fullShare} f
/-- Cell `s` at zero. -/
abbrev cellZero (s : Fin 4) : sProp 𝕄 := semVal ((c : Thread nD τ), cellLoc s) 0
/-- Slot `s`'s share of box `b`'s window. -/
abbrev lent (s : Fin 4) (b : Fin 100) : sProp 𝕄 :=
  (source x0 b).view.loc (c : Thread nD τ) ↦[(source x0 b).view.set]{part s} W
/-- Slot `s`'s share of the mask array outside box `b`'s window. -/
def kept (s : Fin 4) (b : Fin 100) : sProp 𝕄 :=
  ((c : Thread nD τ).loc main_arg2) ↦[Finset.univ \ (source x0 b).view.set]{part s} W
/-- Slot `s`'s share of the whole mask array. -/
abbrev copyOf (s : Fin 4) : sProp 𝕄 := ((c : Thread nD τ).loc main_arg2) ↦[Finset.univ]{part s} W
/-- Slot `s`'s contents once box `b`'s window has landed over `f`. -/
abbrev landed (s : Fin 4) (b : Fin 100) (f : Held (F := F) c (slot s)) : Held (F := F) c (slot s) :=
  (slot s).view.writes (Elt F) f [⟨Rect.whole S128x24x50, ReadAs.same.apply ((source x0 b).view.read (Elt F) W)⟩]
/-- The transfer of box `b`'s window into slot `s`, delivering the slot landed and the lent rows back. -/
abbrev flight (s : Fin 4) (b : Fin 100) (f : Held (F := F) c (slot s)) : sProp 𝕄 :=
  Transfers.Flight countersEmb (c : Thread nD τ) (cellLoc s) default ((slot s).view.amount (cellLoc s))
    iprop(slotAt c s (landed c x0 W s b f) ∗ lent c x0 W s b)
/-- A slot at rest carries its share of the mask array whole; -/
abbrev resting (s : Fin 4) (f : Held (F := F) c (slot s)) : sProp 𝕄 := iprop(slotAt c s f ∗ copyOf c W s)
/-- one in flight, what its transfer did not borrow. -/
abbrev flying (s : Fin 4) (b : Fin 100) (f : Held (F := F) c (slot s)) : sProp 𝕄 := iprop(flight c x0 W s b f ∗ kept c x0 W s b)
/-- No box's window is held apart. -/
abbrev apart (b : Fin 100) : sProp 𝕄 := iprop(emp)

/-- The ring before step `k`: every slot at rest before the first; from then on the windows of boxes `k`,
    `k + 1`, `k + 2` in flight (as far as there are boxes) and the fourth slot at rest. -/
def ring (k : ℕ) : sProp 𝕄 :=
  if k = 0 then Ring.At₀ (cellZero c) (resting c W) apart
  else Ring.At 3 (cellZero c) (resting c W) apart (flying c x0 W) k

/-- Slot `s`'s share of the mask array is box `b`'s window and the rest of it. -/
theorem lend (s : Fin 4) (b : Fin 100) : copyOf (F := F) c W s ⊣⊢ iprop(lent c x0 W s b ∗ kept c x0 W s b) := by
  unfold kept; exact pointsTo_split_subset (Finset.subset_univ _)

/-- The mask array held whole is the four slots' shares of it. -/
theorem quarters : (masks.view.loc (c : Thread nD τ) ↦{fullShare} W : sProp 𝕄)
    ⊣⊢ iprop(copyOf c W 0 ∗ copyOf c W 1 ∗ copyOf c W 2 ∗ copyOf c W 3) := by
  have a := pointsTo_share (U := Pipeline.UD sig nD τ) (Name := ℕ) (Lvl := ℕ) (Ix := Unit) (PosShare.mem_left_op_right fullShare) (ℓ := (c : Thread nD τ).loc main_arg2) (f := W) (I := Finset.univ)
  have b := pointsTo_share (U := Pipeline.UD sig nD τ) (Name := ℕ) (Lvl := ℕ) (Ix := Unit) (PosShare.mem_left_op_right fullShare.right) (ℓ := (c : Thread nD τ).loc main_arg2) (f := W) (I := Finset.univ)
  have d := pointsTo_share (U := Pipeline.UD sig nD τ) (Name := ℕ) (Lvl := ℕ) (Ix := Unit) (PosShare.mem_left_op_right fullShare.right.right) (ℓ := (c : Thread nD τ).loc main_arg2) (f := W) (I := Finset.univ)
  refine ⟨?_, ?_⟩
  · iintro H
    ihave Ha := a.1 $$ H
    icases Ha with ⟨H0, R⟩
    ihave Hb := b.1 $$ R
    icases Hb with ⟨H1, R⟩
    ihave Hd := d.1 $$ R
    icases Hd with ⟨H2, H3⟩
    isplitl [H0]; · iexact H0
    isplitl [H1]; · iexact H1
    isplitl [H2]; · iexact H2
    iexact H3
  · iintro ⟨H0, H1, H2, H3⟩
    iapply a.2
    isplitl [H0]; · iexact H0
    iapply b.2
    isplitl [H1]; · iexact H1
    iapply d.2
    isplitl [H2]; · iexact H2
    iexact H3

end Families

/-! ## The slots tile the scratch buffer -/

/-- Slot `s`'s elements of the scratch buffer. -/
abbrev slotSet (s : Fin 4) : Finset S4x128x24x50.Idx :=
  (Rect.unit (s := S4x128x24x50) ![s.val, 0, 0, 0] S1x128x24x50.size (inb_slot s)).set
/-- The elements of a slot. -/
theorem slotSet_eq (s : Fin 4) : (slot s).view.set = slotSet s := by
  simp only [slot, Memref.view_squeeze, View.set_reshape]; exact View.set_slice_whole _ _
/-- Two slots share none, -/
theorem slots_disjoint (s s' : Fin 4) (h : s ≠ s') : Disjoint (slotSet s) (slotSet s') :=
  Ring.lead_disjoint (s := S4x128x24x50) (0 : Fin 4) 1 (fun s : Fin 4 => (![s.val, 0, 0, 0] : Fin 4 → Nat))
    S1x128x24x50.size inb_slot (fun s => by simp) rfl s s' h
/-- and the four have all. -/
theorem slots_cover : Finset.univ.biUnion slotSet = Finset.univ :=
  Ring.lead_cover (s := S4x128x24x50) (0 : Fin 4) 1 (fun s : Fin 4 => (![s.val, 0, 0, 0] : Fin 4 → Nat))
    S1x128x24x50.size inb_slot (fun s => by simp)
    (fun s a ha => by fin_cases a <;> first | exact absurd rfl ha | rfl) rfl
    (fun a ha => by fin_cases a <;> first | exact absurd rfl ha | rfl) rfl

section InOut
variable (c : Dev nD) (x0 : Vec F S100x5 .f32) (W : Held (F := F) c masks)

/-- Owning a slot is owning its elements. -/
theorem slotAt_eq (s : Fin 4) (f) :
    slotAt (F := F) c s f = (((c : Thread nD τ).loc cc0_scratch0) ↦[slotSet s]{fullShare} f : sProp 𝕄) := by
  unfold slotAt; rw [slotSet_eq]; rfl

/-- The four slots, each at some contents. -/
abbrev anySlots : sProp 𝕄 :=
  iprop((∃ f, slotAt (F := F) c 0 f) ∗ (∃ f, slotAt (F := F) c 1 f) ∗ (∃ f, slotAt (F := F) c 2 f) ∗ ∃ f, slotAt (F := F) c 3 f)
/-- The four cells at zero, by their numbers. -/
abbrev zeroCells : sProp 𝕄 :=
  iprop(semVal ((c : Thread nD τ), SemLoc.dma 4) 0 ∗ semVal ((c : Thread nD τ), SemLoc.dma 5) 0
    ∗ semVal ((c : Thread nD τ), SemLoc.dma 6) 0 ∗ semVal ((c : Thread nD τ), SemLoc.dma 7) 0)
/-- What the launch hands the ring: the scratch buffer at some contents, the cells at zero, the mask array. -/
abbrev handed : sProp 𝕄 :=
  iprop((∃ d, owns (c : Thread nD τ) scratch fullShare d) ∗ zeroCells c ∗ (masks.view.loc (c : Thread nD τ) ↦{fullShare} W))

set_option maxHeartbeats 1000000 in
/-- The scratch buffer splits into its four slots, -/
theorem slots_split : iprop(∃ d, owns (c : Thread nD τ) scratch fullShare d) ⊢ (anySlots (F := F) c : sProp 𝕄) := by
  simp only [scratch, owns_whole]
  exact Ring.slots4_split (U := Pipeline.UD sig nD τ) (ℓ := (c : Thread nD τ).loc cc0_scratch0) (q := fullShare) slotSet
    slots_disjoint slots_cover (slotAt c 0) (slotAt c 1) (slotAt c 2) (slotAt c 3)
    (slotAt_eq c 0) (slotAt_eq c 1) (slotAt_eq c 2) (slotAt_eq c 3)
set_option maxHeartbeats 1000000 in
/-- and they join again. -/
theorem slots_join : (anySlots (F := F) c : sProp 𝕄) ⊢ iprop(∃ d, owns (c : Thread nD τ) scratch fullShare d) := by
  simp only [scratch, owns_whole]
  exact Ring.slots4_join (U := Pipeline.UD sig nD τ) (ℓ := (c : Thread nD τ).loc cc0_scratch0) (q := fullShare) slotSet
    slots_disjoint slots_cover (slotAt c 0) (slotAt c 1) (slotAt c 2) (slotAt c 3)
    (slotAt_eq c 0) (slotAt_eq c 1) (slotAt_eq c 2) (slotAt_eq c 3)

/-- A slot's semaphore at zero, by its place. -/
theorem cellZero_eq (s : Fin 4) (ℓ : SemLoc sig) (h : cellLoc s = ℓ) :
    cellZero (F := F) c s = semVal ((c : Thread nD τ), ℓ) 0 :=
  congrArg (fun x => (semVal ((c : Thread nD τ), x) 0 : sProp 𝕄)) h

/-- The launch's buffers are the ring before its first step. -/
theorem ring_in : handed (F := F) c W ⊢ ring c x0 W 0 := by
  unfold ring; rw [if_pos rfl]; unfold Ring.At₀
  rw [Ring.bigSep_fin4]
  simp only [Ring.free, cellZero_eq c 0 _ cellLoc_0, cellZero_eq c 1 _ cellLoc_1, cellZero_eq c 2 _ cellLoc_2, cellZero_eq c 3 _ cellLoc_3]
  iintro ⟨HS, ⟨C0, C1, C2, C3⟩, HW⟩
  iapply Ring.with_homes₀
  ihave HS' := (slots_split (F := F) c) $$ HS
  icases HS' with ⟨⟨%f0, S0⟩, ⟨%f1, S1⟩, ⟨%f2, S2⟩, ⟨%f3, S3⟩⟩
  ihave HW' := (quarters (F := F) c W).1 $$ HW
  icases HW' with ⟨W0, W1, W2, W3⟩
  isplitl [C0 S0 W0]
  · isplitl [C0]; · iexact C0
    iexists f0; isplitl [S0]; · iexact S0
    iexact W0
  isplitl [C1 S1 W1]
  · isplitl [C1]; · iexact C1
    iexists f1; isplitl [S1]; · iexact S1
    iexact W1
  isplitl [C2 S2 W2]
  · isplitl [C2]; · iexact C2
    iexists f2; isplitl [S2]; · iexact S2
    iexact W2
  isplitl [C3]; · iexact C3
  iexists f3; isplitl [S3]; · iexact S3
  iexact W3

/-- After the last step the ring is those buffers again. -/
theorem ring_out : ring c x0 W 100 ⊢ handed (F := F) c W := by
  unfold ring; rw [if_neg (by decide)]
  iintro H
  ihave H' := (Ring.free4_of_At_last _ _ _ _) $$ H
  simp only [Ring.free, cellZero_eq c 0 _ cellLoc_0, cellZero_eq c 1 _ cellLoc_1, cellZero_eq c 2 _ cellLoc_2, cellZero_eq c 3 _ cellLoc_3]
  icases H' with ⟨-, ⟨C0, ⟨%f0, S0, W0⟩⟩, ⟨C1, ⟨%f1, S1, W1⟩⟩, ⟨C2, ⟨%f2, S2, W2⟩⟩, ⟨C3, ⟨%f3, S3, W3⟩⟩⟩
  isplitl [S0 S1 S2 S3]
  · iapply (slots_join (F := F) c)
    isplitl [S0]; · iexists f0; iexact S0
    isplitl [S1]; · iexists f1; iexact S1
    isplitl [S2]; · iexists f2; iexact S2
    iexists f3; iexact S3
  isplitl [C0 C1 C2 C3]
  · isplitl [C0]; · iexact C0
    isplitl [C1]; · iexact C1
    isplitl [C2]; · iexact C2
    iexact C3
  iapply (quarters (F := F) c W).2
  isplitl [W0]; · iexact W0
  isplitl [W1]; · iexact W1
  isplitl [W2]; · iexact W2
  iexact W3

end InOut

/-! ## The body's spellings of slots, cells and sources -/

/-- A scratch slice at offsets that are slot `s`'s is slot `s`. -/
theorem slot_spelt (s : Fin 4) {off : Fin 4 → Nat} (e : off = ![s.val, 0, 0, 0]) (h) :
    (scratch.slice (Rect.unit (s := S4x128x24x50) off S1x128x24x50.size h) (fun _ => rfl)).squeeze S128x24x50 squeezes_S1x128x24x50_S128x24x50 = slot s :=
  congrArg (fun M : Memref sig .tc .vmem S1x128x24x50 .f32 => M.squeeze S128x24x50 squeezes_S1x128x24x50_S128x24x50)
    (Memref.slice_unit_congr _ e _ _ (fun _ => rfl) (fun _ => rfl))
/-- A cell at offsets that are cell `s`'s is cell `s`. -/
theorem cell_spelt (s : Fin 4) {off : Fin 1 → Nat} (e : off = ![s.val]) (h) :
    (cc0_scratch1.slice (Rect.unit (s := S4) off S1.size h)).squeeze S_ squeezes_S1_S_ = cell s :=
  congrArg (fun A : DmaSems sig S1 => A.squeeze S_ squeezes_S1_S_) (SemArray.slice_unit_congr _ e _ _)
/-- A mask slice at box `b`, from the row that `b`'s word names, is `b`'s window. -/
theorem source_spelt (x0 : Vec F S100x5 .f32) (b : Fin 100) {off : Fin 4 → Nat} (w : BitVec 32) (hw : w = rowWord x0 b)
    (e : off = ![b.val, 0, top w, 0]) (h) :
    (masks.slice (Rect.unit (s := S100x128x50x50) off S1x128x24x50.size h) (fun _ => rfl)).squeeze S128x24x50 squeezes_S1x128x24x50_S128x24x50 = source x0 b := by
  subst hw
  exact congrArg (fun M : Memref sig .tc .hbm S1x128x24x50 .f32 => M.squeeze S128x24x50 squeezes_S1x128x24x50_S128x24x50)
    (Memref.slice_unit_congr _ e _ _ (fun _ => rfl) (fun _ => rfl))

section Spelt
omit [FloatOps F]
@[sl_canon] theorem slot_ahead (t : Fin grid0.N) (h) :
    (scratch.slice (Rect.unit (s := S4x128x24x50) (k0_off6 (grid0.coords t)) S1x128x24x50.size h) (fun _ => rfl)).squeeze S128x24x50 squeezes_S1x128x24x50_S128x24x50 = slot (Ring.sl 4 (t.val + 3)) :=
  slot_spelt _ (off6_eq t) h
@[sl_canon] theorem slot_here (t : Fin grid0.N) (h) :
    (scratch.slice (Rect.unit (s := S4x128x24x50) (k0_off10 (grid0.coords t)) S1x128x24x50.size h) (fun _ => rfl)).squeeze S128x24x50 squeezes_S1x128x24x50_S128x24x50 = slot (Ring.sl 4 t.val) :=
  slot_spelt _ (off10_eq t) h
@[sl_canon] theorem cell_ahead (t : Fin grid0.N) (h) :
    (cc0_scratch1.slice (Rect.unit (s := S4) (k0_off5 (grid0.coords t)) S1.size h)).squeeze S_ squeezes_S1_S_ = cell (Ring.sl 4 (t.val + 3)) :=
  cell_spelt _ (off5_eq t) h
@[sl_canon] theorem cell_here (t : Fin grid0.N) (h) :
    (cc0_scratch1.slice (Rect.unit (s := S4) (k0_off9 (grid0.coords t)) S1.size h)).squeeze S_ squeezes_S1_S_ = cell (Ring.sl 4 t.val) :=
  cell_spelt _ (off9_eq t) h
end Spelt

@[sl_canon] theorem source_ahead (t : Fin grid0.N) (x0 : Vec F S100x5 .f32) (w : BitVec 32)
    (hw : w = rowWord x0 (Ring.bk 100 (t.val + 3))) (h1 : k0_cond2 (grid0.coords t) = 1#1) (h) :
    (masks.slice (Rect.unit (s := S100x128x50x50) (k0_off7 (grid0.coords t) w) S1x128x24x50.size h) (fun _ => rfl)).squeeze S128x24x50 squeezes_S1x128x24x50_S128x24x50 = source x0 (Ring.bk 100 (t.val + 3)) :=
  source_spelt x0 _ w hw (off7_eq t h1 w) h
@[sl_canon] theorem source_here (t : Fin grid0.N) (x0 : Vec F S100x5 .f32) (w : BitVec 32)
    (hw : w = rowWord x0 (Ring.bk 100 t.val)) (h) :
    (masks.slice (Rect.unit (s := S100x128x50x50) (k0_off11 (grid0.coords t) w) S1x128x24x50.size h) (fun _ => rfl)).squeeze S128x24x50 squeezes_S1x128x24x50_S128x24x50 = source x0 (Ring.bk 100 t.val) :=
  source_spelt x0 _ w hw (off11_eq t w) h
@[sl_canon] theorem source_first0 (t : Fin grid0.N) (x0 : Vec F S100x5 .f32) (w : BitVec 32)
    (hw : w = rowWord x0 (Ring.bk 100 t.val)) (ht : t.val = 0) (h) :
    (masks.slice (Rect.unit (s := S100x128x50x50) (k0_off1 w) S1x128x24x50.size h) (fun _ => rfl)).squeeze S128x24x50 squeezes_S1x128x24x50_S128x24x50 = source x0 (Ring.bk 100 t.val) :=
  source_spelt x0 _ w hw ((off1_eq w).trans (by rw [ht]; rfl)) h
@[sl_canon] theorem source_first1 (t : Fin grid0.N) (x0 : Vec F S100x5 .f32) (w : BitVec 32)
    (hw : w = rowWord x0 (Ring.bk 100 (t.val + 1))) (ht : t.val = 0) (h) :
    (masks.slice (Rect.unit (s := S100x128x50x50) (k0_off2 w) S1x128x24x50.size h) (fun _ => rfl)).squeeze S128x24x50 squeezes_S1x128x24x50_S128x24x50 = source x0 (Ring.bk 100 (t.val + 1)) :=
  source_spelt x0 _ w hw ((off2_eq w).trans (by rw [ht]; rfl)) h
@[sl_canon] theorem source_first2 (t : Fin grid0.N) (x0 : Vec F S100x5 .f32) (w : BitVec 32)
    (hw : w = rowWord x0 (Ring.bk 100 (t.val + 2))) (ht : t.val = 0) (h) :
    (masks.slice (Rect.unit (s := S100x128x50x50) (k0_off3 w) S1x128x24x50.size h) (fun _ => rfl)).squeeze S128x24x50 squeezes_S1x128x24x50_S128x24x50 = source x0 (Ring.bk 100 (t.val + 2)) :=
  source_spelt x0 _ w hw ((off3_eq w).trans (by rw [ht]; rfl)) h

/-- The slot the body loads from, by its number. -/
instance (priority := high) closed_load (t : Fin grid0.N) : ClosedOff (k0_off18 (grid0.coords t)) :=
  ⟨![(Ring.sl 4 t.val).val, 0, 0, 0], off18_eq t⟩

end Cert.KernelIdeal.Roi

end
-- ==== Proof.First.lean ====
/- The body of the first step, where four transfers are started and the first is waited for. -/
module

public import proofs.«01_k».proof.Proof.Ring

@[expose] public section

set_option maxRecDepth 16384

noncomputable section

namespace Cert.KernelIdeal.Roi

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 1000000 in
/-- The body of the first step, run: from the two inputs' buffers at `x0` (the boxes) and `x1` (the features), the
    output's buffer at anything, the ring's four slots as they stand before the step, it ends with the inputs as they
    were, the ring as the next step takes it, and the output's buffer written with the listed pieces. -/
noncomputable def runFirst (c : Dev nD) (t : Fin cfg0.N) (arg1 : Memref sig .tc .smem S100x5 .f32) (harg1 : arg1.IsWhole)
    (arg2 : Memref sig .tc .vmem S2x128x50x50 .f32) (harg2 : arg2.IsWhole)
    (arg4 : Memref sig .tc .vmem S1x128x49 .f32) (harg4 : arg4.IsWhole)
    (ht : t.val = 0) (h1 : k0_cond1 (grid0.coords t) = 1#1) (h2 : k0_cond2 (grid0.coords t) = 1#1)
    (x0 : Vec F S100x5 .f32) (hx : BatchOk x0) (x1 : Vec F S2x128x50x50 .f32) (M : Held (F := F) c masks) :
    { L : List (View.Piece (Elt F) S1x128x49 .f32) //
      ∀ (W : Waits sig Unit) (K : PUnit → sProp 𝕄),
        iprop(owns (c : Thread nD τ) arg1 fullShare x0 ∗ owns (c : Thread nD τ) arg2 fullShare x1 ∗ (∃ d, owns (c : Thread nD τ) arg4 fullShare d) ∗ Ring.free (cellZero c) (resting c M) (Ring.sl 4 t.val) ∗ Ring.free (cellZero c) (resting c M) (Ring.sl 4 (t.val + 1)) ∗ Ring.free (cellZero c) (resting c M) (Ring.sl 4 (t.val + 2)) ∗ Ring.free (cellZero c) (resting c M) (Ring.sl 4 (t.val + 3)) ∗ owes (c : Thread nD τ) 0 W
            ∗ (iprop(owns (c : Thread nD τ) arg1 fullShare x0 ∗ owns (c : Thread nD τ) arg2 fullShare x1 ∗ (∃ f, arg4.view.loc (c : Thread nD τ) ↦[arg4.view.set]{fullShare} arg4.view.writes (Elt F) f L) ∗ Ring.inflight (flying c x0 M) (Ring.sl 4 (t.val + 1)) (Ring.bk 100 (t.val + 1)) ∗ Ring.inflight (flying c x0 M) (Ring.sl 4 (t.val + 2)) (Ring.bk 100 (t.val + 2)) ∗ Ring.inflight (flying c x0 M) (Ring.sl 4 (t.val + 3)) (Ring.bk 100 (t.val + 3)) ∗ Ring.free (cellZero c) (resting c M) (Ring.sl 4 t.val) ∗ (∃ W', owes (c : Thread nD τ) 0 W')) -∗ K ⟨⟩))
          ⊢ wp frame (wpE (defs₀ (F := F)) Variants.none c none) Set.univ (cc0__roi_kernel (grid0.coords t) arg1 harg1 arg2 harg2 (Memref.whole main_arg2) (Memref.isWhole_whole _) arg4 harg4 scratch (Memref.isWhole_whole _) cc0_scratch1) K } := by
  refine ⟨?_, fun W K => ?run⟩
  case run =>
    have hAhead : Scalar.fptosi 32 (k0_pay5 (entry arg1 harg1 x0 (k0_off4 (grid0.coords t)) (k0_off4_inb _ h2))) = rowWord x0 (Ring.bk 100 (t.val + 3)) :=
      congrArg (fun v => Scalar.fptosi 32 (k0_pay5 v)) (entry_eq arg1 harg1 x0 (off4_eq t h2) _)
    have hHere : Scalar.fptosi 32 (k0_pay6 (entry arg1 harg1 x0 (k0_off8 (grid0.coords t)) (k0_off8_inb _))) = rowWord x0 (Ring.bk 100 t.val) :=
      congrArg (fun v => Scalar.fptosi 32 (k0_pay6 v)) (entry_eq arg1 harg1 x0 (off8_eq t) _)
    have hFirst0 : Scalar.fptosi 32 (k0_pay2 (entry arg1 harg1 x0 ![0, 2] inb_S100x5_S1x1_0_2)) = rowWord x0 (Ring.bk 100 t.val) :=
      congrArg (fun v => Scalar.fptosi 32 (k0_pay2 v)) (entry_eq arg1 harg1 x0 (b := Ring.bk 100 t.val) (k := 2) (by rw [ht]; rfl) _)
    have hFirst1 : Scalar.fptosi 32 (k0_pay3 (entry arg1 harg1 x0 ![1, 2] inb_S100x5_S1x1_1_2)) = rowWord x0 (Ring.bk 100 (t.val + 1)) :=
      congrArg (fun v => Scalar.fptosi 32 (k0_pay3 v)) (entry_eq arg1 harg1 x0 (b := Ring.bk 100 (t.val + 1)) (k := 2) (by rw [ht]; rfl) _)
    have hFirst2 : Scalar.fptosi 32 (k0_pay4 (entry arg1 harg1 x0 ![2, 2] inb_S100x5_S1x1_2_2)) = rowWord x0 (Ring.bk 100 (t.val + 2)) :=
      congrArg (fun v => Scalar.fptosi 32 (k0_pay4 v)) (entry_eq arg1 harg1 x0 (b := Ring.bk 100 (t.val + 2)) (k := 2) (by rw [ht]; rfl) _)
    have hcanon0 : (scratch.slice (Rect.unit (s := S4x128x24x50) ![0, 0, 0, 0] S1x128x24x50.size inb_S4x128x24x50_S1x128x24x50_0_0_0_0) (fun _ => rfl)).squeeze S128x24x50 squeezes_S1x128x24x50_S128x24x50 = slot (Ring.sl 4 t.val) :=
      slot_spelt _ (by rw [ht]; rfl) _
    have hcanon1 : (cc0_scratch1.slice (Rect.unit (s := S4) ![0] S1.size inb_S4_S1_0)).squeeze S_ squeezes_S1_S_ = cell (Ring.sl 4 t.val) :=
      cell_spelt _ (by rw [ht]; rfl) _
    have hcanon2 : (scratch.slice (Rect.unit (s := S4x128x24x50) ![1, 0, 0, 0] S1x128x24x50.size inb_S4x128x24x50_S1x128x24x50_1_0_0_0) (fun _ => rfl)).squeeze S128x24x50 squeezes_S1x128x24x50_S128x24x50 = slot (Ring.sl 4 (t.val + 1)) :=
      slot_spelt _ (by rw [ht]; rfl) _
    have hcanon3 : (cc0_scratch1.slice (Rect.unit (s := S4) ![1] S1.size inb_S4_S1_1)).squeeze S_ squeezes_S1_S_ = cell (Ring.sl 4 (t.val + 1)) :=
      cell_spelt _ (by rw [ht]; rfl) _
    have hcanon4 : (scratch.slice (Rect.unit (s := S4x128x24x50) ![2, 0, 0, 0] S1x128x24x50.size inb_S4x128x24x50_S1x128x24x50_2_0_0_0) (fun _ => rfl)).squeeze S128x24x50 squeezes_S1x128x24x50_S128x24x50 = slot (Ring.sl 4 (t.val + 2)) :=
      slot_spelt _ (by rw [ht]; rfl) _
    have hcanon5 : (cc0_scratch1.slice (Rect.unit (s := S4) ![2] S1.size inb_S4_S1_2)).squeeze S_ squeezes_S1_S_ = cell (Ring.sl 4 (t.val + 2)) :=
      cell_spelt _ (by rw [ht]; rfl) _
    simp only [cc0__roi_kernel_eq_skeleton]; unfold cc0__roi_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns Ring.free Ring.inflight
    iintro ⟨⟨%f0, %hf0, H0⟩, ⟨%f1, %hf1, H1⟩, ⟨%d2, %f2, -, H2⟩, ⟨C0, ⟨%g0, S0, W0⟩⟩, ⟨C1, ⟨%g1, S1, W1⟩⟩, ⟨C2, ⟨%g2, S2, W2⟩⟩, ⟨C3, ⟨%g3, S3, W3⟩⟩, HW, Hk⟩
    ihave L0 := (lend c x0 M (Ring.sl 4 t.val) (Ring.bk 100 t.val)).1 $$ W0
    icases L0 with ⟨L0, R0⟩
    ihave L1 := (lend c x0 M (Ring.sl 4 (t.val + 1)) (Ring.bk 100 (t.val + 1))).1 $$ W1
    icases L1 with ⟨L1, R1⟩
    ihave L2 := (lend c x0 M (Ring.sl 4 (t.val + 2)) (Ring.bk 100 (t.val + 2))).1 $$ W2
    icases L2 with ⟨L2, R2⟩
    ihave L3 := (lend c x0 M (Ring.sl 4 (t.val + 3)) (Ring.bk 100 (t.val + 3))).1 $$ W3
    icases L3 with ⟨L3, R3⟩
    obtain rfl := harg1.eq_unread hf0; obtain rfl := harg2.eq_unread hf1
    sl_exec (disch := first | sl_exact h1 | sl_exact h2 | with_reducible exact chk1_all _ _ | with_reducible exact chk2_all _ _ | with_reducible exact chk3_all _ _ | with_reducible exact chk4_all t _ | with_reducible exact chk5_all t _ | exact checked t arg1 harg1 x0 hx _)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [C1 R1]
    · iexists _; isplitl [C1]; · iexact C1
      iexact R1
    isplitl [C2 R2]
    · iexists _; isplitl [C2]; · iexact C2
      iexact R2
    isplitl [C3 R3]
    · iexists _; isplitl [C3]; · iexact C3
      iexact R3
    isplitl [C0 S0 L0 R0]
    · isplitl [C0]; · iexact C0
      iexists _; isplitl [S0]; · iexact S0
      iapply (lend c x0 M (Ring.sl 4 t.val) (Ring.bk 100 t.val)).2; isplitl [L0]; · iexact L0
      iexact R0
    iexists _; iexact HW

end Cert.KernelIdeal.Roi

end
-- ==== Proof.Middle.lean ====
/- The body of a middle step: boxes 1 to 96, where one transfer is started and one is waited for. -/
module

public import proofs.«01_k».proof.Proof.Ring

@[expose] public section

set_option maxRecDepth 16384

noncomputable section

namespace Cert.KernelIdeal.Roi

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 1000000 in
/-- The body of a middle step, run: from the two inputs' buffers at `x0` (the boxes) and `x1` (the features), the
    output's buffer at anything, the ring's four slots as they stand before the step, it ends with the inputs as they
    were, the ring as the next step takes it, and the output's buffer written with the listed pieces. -/
noncomputable def runMiddle (c : Dev nD) (t : Fin cfg0.N) (arg1 : Memref sig .tc .smem S100x5 .f32) (harg1 : arg1.IsWhole)
    (arg2 : Memref sig .tc .vmem S2x128x50x50 .f32) (harg2 : arg2.IsWhole)
    (arg4 : Memref sig .tc .vmem S1x128x49 .f32) (harg4 : arg4.IsWhole)
    (h1 : ¬k0_cond1 (grid0.coords t) = 1#1) (h2 : k0_cond2 (grid0.coords t) = 1#1)
    (x0 : Vec F S100x5 .f32) (hx : BatchOk x0) (x1 : Vec F S2x128x50x50 .f32) (M : Held (F := F) c masks) :
    { L : List (View.Piece (Elt F) S1x128x49 .f32) //
      ∀ (W : Waits sig Unit) (K : PUnit → sProp 𝕄),
        iprop(owns (c : Thread nD τ) arg1 fullShare x0 ∗ owns (c : Thread nD τ) arg2 fullShare x1 ∗ (∃ d, owns (c : Thread nD τ) arg4 fullShare d) ∗ Ring.inflight (flying c x0 M) (Ring.sl 4 t.val) (Ring.bk 100 t.val) ∗ Ring.inflight (flying c x0 M) (Ring.sl 4 (t.val + 1)) (Ring.bk 100 (t.val + 1)) ∗ Ring.inflight (flying c x0 M) (Ring.sl 4 (t.val + 2)) (Ring.bk 100 (t.val + 2)) ∗ Ring.free (cellZero c) (resting c M) (Ring.sl 4 (t.val + 3)) ∗ owes (c : Thread nD τ) 0 W
            ∗ (iprop(owns (c : Thread nD τ) arg1 fullShare x0 ∗ owns (c : Thread nD τ) arg2 fullShare x1 ∗ (∃ f, arg4.view.loc (c : Thread nD τ) ↦[arg4.view.set]{fullShare} arg4.view.writes (Elt F) f L) ∗ Ring.inflight (flying c x0 M) (Ring.sl 4 (t.val + 1)) (Ring.bk 100 (t.val + 1)) ∗ Ring.inflight (flying c x0 M) (Ring.sl 4 (t.val + 2)) (Ring.bk 100 (t.val + 2)) ∗ Ring.inflight (flying c x0 M) (Ring.sl 4 (t.val + 3)) (Ring.bk 100 (t.val + 3)) ∗ Ring.free (cellZero c) (resting c M) (Ring.sl 4 t.val) ∗ (∃ W', owes (c : Thread nD τ) 0 W')) -∗ K ⟨⟩))
          ⊢ wp frame (wpE (defs₀ (F := F)) Variants.none c none) Set.univ (cc0__roi_kernel (grid0.coords t) arg1 harg1 arg2 harg2 (Memref.whole main_arg2) (Memref.isWhole_whole _) arg4 harg4 scratch (Memref.isWhole_whole _) cc0_scratch1) K } := by
  refine ⟨?_, fun W K => ?run⟩
  case run =>
    have hAhead : Scalar.fptosi 32 (k0_pay5 (entry arg1 harg1 x0 (k0_off4 (grid0.coords t)) (k0_off4_inb _ h2))) = rowWord x0 (Ring.bk 100 (t.val + 3)) :=
      congrArg (fun v => Scalar.fptosi 32 (k0_pay5 v)) (entry_eq arg1 harg1 x0 (off4_eq t h2) _)
    have hHere : Scalar.fptosi 32 (k0_pay6 (entry arg1 harg1 x0 (k0_off8 (grid0.coords t)) (k0_off8_inb _))) = rowWord x0 (Ring.bk 100 t.val) :=
      congrArg (fun v => Scalar.fptosi 32 (k0_pay6 v)) (entry_eq arg1 harg1 x0 (off8_eq t) _)
    simp only [cc0__roi_kernel_eq_skeleton]; unfold cc0__roi_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns Ring.free Ring.inflight
    iintro ⟨⟨%f0, %hf0, H0⟩, ⟨%f1, %hf1, H1⟩, ⟨%d2, %f2, -, H2⟩, ⟨%g0, F0, R0⟩, ⟨%g1, F1, R1⟩, ⟨%g2, F2, R2⟩, ⟨C3, ⟨%g3, S3, W3⟩⟩, HW, Hk⟩
    ihave L3 := (lend c x0 M (Ring.sl 4 (t.val + 3)) (Ring.bk 100 (t.val + 3))).1 $$ W3
    icases L3 with ⟨L3, R3⟩
    obtain rfl := harg1.eq_unread hf0; obtain rfl := harg2.eq_unread hf1
    sl_exec (disch := first | sl_exact h1 | sl_exact h2 | exact chk4_all t _ | exact chk5_all t _ | exact checked t arg1 harg1 x0 hx _)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [F1 R1]
    · iexists g1; isplitl [F1]; · iexact F1
      iexact R1
    isplitl [F2 R2]
    · iexists g2; isplitl [F2]; · iexact F2
      iexact R2
    isplitl [C3 R3]
    · iexists _; isplitl [C3]; · iexact C3
      iexact R3
    isplitl [F0 F0_dst F0_src R0]
    · isplitl [F0]; · iexact F0
      iexists _; isplitl [F0_dst]; · iexact F0_dst
      iapply (lend c x0 M (Ring.sl 4 t.val) (Ring.bk 100 t.val)).2; isplitl [F0_src]; · iexact F0_src
      iexact R0
    iexists _; iexact HW

end Cert.KernelIdeal.Roi

end
-- ==== Proof.Last.lean ====
/- The body of one of the last three steps, where no transfer is started and one is waited for. -/
module

public import proofs.«01_k».proof.Proof.Ring

@[expose] public section

set_option maxRecDepth 16384

noncomputable section

namespace Cert.KernelIdeal.Roi

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 1000000 in
/-- The body of one of the last steps, run: from the two inputs' buffers at `x0` (the boxes) and `x1` (the features), the
    output's buffer at anything, the ring's four slots as they stand before the step, it ends with the inputs as they
    were, the ring as the next step takes it, and the output's buffer written with the listed pieces. -/
noncomputable def runLast (c : Dev nD) (t : Fin cfg0.N) (arg1 : Memref sig .tc .smem S100x5 .f32) (harg1 : arg1.IsWhole)
    (arg2 : Memref sig .tc .vmem S2x128x50x50 .f32) (harg2 : arg2.IsWhole)
    (arg4 : Memref sig .tc .vmem S1x128x49 .f32) (harg4 : arg4.IsWhole)
    (h1 : ¬k0_cond1 (grid0.coords t) = 1#1) (h2 : ¬k0_cond2 (grid0.coords t) = 1#1)
    (x0 : Vec F S100x5 .f32) (hx : BatchOk x0) (x1 : Vec F S2x128x50x50 .f32) (M : Held (F := F) c masks) :
    { L : List (View.Piece (Elt F) S1x128x49 .f32) //
      ∀ (W : Waits sig Unit) (K : PUnit → sProp 𝕄),
        iprop(owns (c : Thread nD τ) arg1 fullShare x0 ∗ owns (c : Thread nD τ) arg2 fullShare x1 ∗ (∃ d, owns (c : Thread nD τ) arg4 fullShare d) ∗ Ring.inflight (flying c x0 M) (Ring.sl 4 t.val) (Ring.bk 100 t.val) ∗ Ring.slotAt 3 (cellZero c) (resting c M) (flying c x0 M) t.val 1 ∗ Ring.slotAt 3 (cellZero c) (resting c M) (flying c x0 M) t.val 2 ∗ Ring.free (cellZero c) (resting c M) (Ring.sl 4 (t.val + 3)) ∗ owes (c : Thread nD τ) 0 W
            ∗ (iprop(owns (c : Thread nD τ) arg1 fullShare x0 ∗ owns (c : Thread nD τ) arg2 fullShare x1 ∗ (∃ f, arg4.view.loc (c : Thread nD τ) ↦[arg4.view.set]{fullShare} arg4.view.writes (Elt F) f L) ∗ Ring.slotAt 3 (cellZero c) (resting c M) (flying c x0 M) t.val 1 ∗ Ring.slotAt 3 (cellZero c) (resting c M) (flying c x0 M) t.val 2 ∗ Ring.free (cellZero c) (resting c M) (Ring.sl 4 (t.val + 3)) ∗ Ring.free (cellZero c) (resting c M) (Ring.sl 4 t.val) ∗ (∃ W', owes (c : Thread nD τ) 0 W')) -∗ K ⟨⟩))
          ⊢ wp frame (wpE (defs₀ (F := F)) Variants.none c none) Set.univ (cc0__roi_kernel (grid0.coords t) arg1 harg1 arg2 harg2 (Memref.whole main_arg2) (Memref.isWhole_whole _) arg4 harg4 scratch (Memref.isWhole_whole _) cc0_scratch1) K } := by
  refine ⟨?_, fun W K => ?run⟩
  case run =>
    have hHere : Scalar.fptosi 32 (k0_pay6 (entry arg1 harg1 x0 (k0_off8 (grid0.coords t)) (k0_off8_inb _))) = rowWord x0 (Ring.bk 100 t.val) :=
      congrArg (fun v => Scalar.fptosi 32 (k0_pay6 v)) (entry_eq arg1 harg1 x0 (off8_eq t) _)
    simp only [cc0__roi_kernel_eq_skeleton]; unfold cc0__roi_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns Ring.free Ring.inflight
    iintro ⟨⟨%f0, %hf0, H0⟩, ⟨%f1, %hf1, H1⟩, ⟨%d2, %f2, -, H2⟩, ⟨%g0, F0, R0⟩, G1, G2, ⟨C3, ⟨%g3, S3, W3⟩⟩, HW, Hk⟩
    obtain rfl := harg1.eq_unread hf0; obtain rfl := harg2.eq_unread hf1
    sl_exec (disch := first | sl_exact h1 | sl_exact h2 | exact chk5_all t _ | exact checked t arg1 harg1 x0 hx _)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [G1]; · iexact G1
    isplitl [G2]; · iexact G2
    isplitl [C3 S3 W3]
    · isplitl [C3]; · iexact C3
      iexists _; isplitl [S3]; · iexact S3
      iexact W3
    isplitl [F0 F0_dst F0_src R0]
    · isplitl [F0]; · iexact F0
      iexists _; isplitl [F0_dst]; · iexact F0_dst
      iapply (lend c x0 M (Ring.sl 4 t.val) (Ring.bk 100 t.val)).2; isplitl [F0_src]; · iexact F0_src
      iexact R0
    iexists _; iexact HW

end Cert.KernelIdeal.Roi

end
-- ==== Proof.Block.lean ====
/- What one step of the body leaves in the output's block, as one function of the boxes, the features and the
   masks: the three kinds of step store the same value, so the output is described without cases. -/
module

public import proofs.«01_k».proof.Proof.First
public import proofs.«01_k».proof.Proof.Middle
public import proofs.«01_k».proof.Proof.Last
public import Idealize.ShloMosaic.Lib.WritesUnit

@[expose] public section

set_option maxRecDepth 16384

noncomputable section

namespace Cert.KernelIdeal.Roi

open Cert.KernelIdeal Cert.KernelIdeal.Gen
open Idealize.ShloMosaic Idealize.ShloMosaic.TcCoe

variable {F : FTy → Type} [FloatOps F]

/-! ## The block -/

/-- The horizontal weights of a box: for each column and each sample, what the column contributes to the sample. -/
def weightsX (x1s bw : F .f32) : FVec F S50x16 .f32 :=
  k0_pay18 (k0_pay16 x1s bw k0_pay12 k0_pay13 k0_pay14) (k0_pay17 x1s bw k0_pay13 k0_pay14)

/-- The samples of a box, vertical by horizontal, from its window of features and its window of masks. -/
def samples (x1s y1s bw bh : F .f32) (w : BitVec 32) (f m : Vec F S1x128x24x50 .f32) : FVec F S128x16x16 .f32 :=
  k0_pay29 (weightsX x1s bw) (k0_pay19 w) (k0_pay22 y1s bh) (k0_pay25 y1s bh) (k0_pay26 y1s bh) (k0_pay27 y1s bh)
    (k0_pay28 y1s bh w) f m

/-- The row coordinate and the column coordinate of the pooling matrix. -/
def rowNo : IVec S256x56 32 := iota .tc S256x56 32 [0] iota_S256x56_d0_w32
/-- The number of each column of the pooling table. -/
def colNo : IVec S256x56 32 := iota .tc S256x56 32 [1] iota_S256x56_d1_w32
/-- Where the pooling matrix has a sample's first coordinate in the bin's row. -/
def inRow : IVec S256x56 1 :=
  k0_pay36 colNo (k0_pay33 16#32 k0_pay30 k0_pay31 k0_pay32) 7#32 (k0_pay34 colNo) (k0_pay35 colNo)
    (Scalar.subi (Scalar.extui (Scalar.cmpi .sgt 7#32 0#32)) (Scalar.extui (Scalar.cmpi .slt 7#32 0#32)))
/-- The samples pooled: four to a bin. -/
def pooled (u : FVec F S128x16x16 .f32) : FVec F S128x49 .f32 :=
  k0_pay40 u colNo inRow (k0_pay37 rowNo) 2#32 (k0_pay38 rowNo) (k0_pay39 rowNo) 1#32 0#32

/-- A box's block from its four scaled edges, its window's first row and the two windows. -/
def blockOf (e1 e2 e3 e4 : F .f32) (v : BitVec 32) (f m : Vec F S1x128x24x50 .f32) : FVec F S1x128x49 .f32 :=
  k0_pay1 (pooled (samples (k0_pay7 e1) (k0_pay8 e2) (k0_pay9 e1 e3) (k0_pay10 e2 e4)
    (Scalar.minsi (Scalar.maxsi v 0#32) 26#32) f m))

/-- The window of the features: 24 rows from `top w` of feature map `v`. -/
def featWindow (x1 : Vec F S2x128x50x50 .f32) (v : BitVec 32) (hv : v.toNat < 2) (w : BitVec 32) : Vec F S1x128x24x50 .f32 :=
  fun y => x1 ((Rect.unit (s := S2x128x50x50) (k0_off17 v w) S1x128x24x50.size (chk6_of v w hv)).emb y)
/-- The window of the masks: 24 rows from `top w` of box `b`'s mask. -/
def maskWindow (M : S100x128x50x50.Idx → F .f32) (b : Fin 100) (w : BitVec 32) : Vec F S1x128x24x50 .f32 :=
  fun y => M ((Rect.unit (s := S100x128x50x50) ![b.val, 0, top w, 0] S1x128x24x50.size (inb_source b w)).emb y)

/-- Box `b`'s block. -/
def block (x0 : Vec F S100x5 .f32) (hx : BatchOk x0) (x1 : Vec F S2x128x50x50 .f32) (M : S100x128x50x50.Idx → F .f32)
    (b : Fin 100) : FVec F S1x128x49 .f32 :=
  blockOf (x0 (boxAt b 1)) (x0 (boxAt b 2)) (x0 (boxAt b 3)) (x0 (boxAt b 4)) (rowWord x0 b)
    (featWindow x1 (Scalar.fptosi 32 (x0 (boxAt b 0))) (hx b) (rowWord x0 b)) (maskWindow M b (rowWord x0 b))

/-! ## What the steps store -/

/-- The feature window as the body loads it. -/
theorem feat_load (arg2 : Memref sig .tc .vmem S2x128x50x50 .f32) (harg2 : arg2.IsWhole) (x1 : Vec F S2x128x50x50 .f32)
    (v w v' w' : BitVec 32) (hv : v' = v) (hw : w' = w) (h : v.toNat < 2) (inb) :
    arg2.view.readAt (Elt F) (Rect.unit (s := S2x128x50x50) (k0_off17 v' w') S1x128x24x50.size inb) (harg2.unread x1)
      = featWindow x1 v h w := by
  subst hv hw
  funext y
  rw [harg2.readAt_unread]
  rfl

/-- The mask window as the body loads it from a slot it has landed in. -/
theorem mask_load (c : Dev nD) (x0 : Vec F S100x5 .f32) (M : Held (F := F) c masks) (s : Fin 4) (b : Fin 100)
    (g : Held (F := F) c (slot s)) (off : Fin 4 → ℕ) (e : off = ![s.val, 0, 0, 0]) (inb) :
    scratch.view.readAt (Elt F) (Rect.unit (s := S4x128x24x50) off S1x128x24x50.size inb) (landed c x0 M s b g)
      = maskWindow M b (rowWord x0 b) := by
  subst e
  funext y
  have hn : S1x128x24x50.numel = S128x24x50.numel := squeezes_S1x128x24x50_S128x24x50.numel_eq.symm
  have a : scratch.view.readAt (Elt F) (Rect.unit (s := S4x128x24x50) ![s.val, 0, 0, 0] S1x128x24x50.size inb) (landed c x0 M s b g) y
      = (slot s).view.read (Elt F) (landed c x0 M s b g) (Shape.reshapeEquiv hn y) := by
    have : y = Shape.reshapeEquiv hn.symm (Shape.reshapeEquiv hn y) := by
      rw [Shape.reshapeEquiv_reshapeEquiv, Shape.reshapeEquiv_self]
    conv_lhs => rw [this]
    rfl
  rw [a]
  have r := View.read_writes_cons_emb (Val := Elt F) (slot s).view g (Rect.whole S128x24x50)
    (ReadAs.same.apply ((source x0 b).view.read (Elt F) M)) [] (Shape.reshapeEquiv hn y)
  rw [show (Rect.whole S128x24x50).emb (Shape.reshapeEquiv hn y) = Shape.reshapeEquiv hn y from by simp] at r
  refine r.trans ?_
  show M ((Rect.unit (s := S100x128x50x50) ![b.val, 0, top (rowWord x0 b), 0] S1x128x24x50.size (inb_source b _)).emb
    (Shape.reshapeEquiv hn.symm (Shape.reshapeEquiv hn y))) = _
  rw [Shape.reshapeEquiv_reshapeEquiv, Shape.reshapeEquiv_self]
  rfl

section Steps
variable (c : Dev nD) (t : Fin cfg0.N) (arg1 : Memref sig .tc .smem S100x5 .f32) (harg1 : arg1.IsWhole)
    (arg2 : Memref sig .tc .vmem S2x128x50x50 .f32) (harg2 : arg2.IsWhole)
    (arg4 : Memref sig .tc .vmem S1x128x49 .f32) (harg4 : arg4.IsWhole)
    (x0 : Vec F S100x5 .f32) (hx : BatchOk x0) (x1 : Vec F S2x128x50x50 .f32) (M : Held (F := F) c masks)

/-- The stored block in the body's spelling: its reads of the staged buffers not yet resolved. -/
def stored : FVec F S1x128x49 .f32 :=
  blockOf (entry arg1 harg1 x0 (k0_off13 (grid0.coords t)) (k0_off13_inb _)) (entry arg1 harg1 x0 (k0_off14 (grid0.coords t)) (k0_off14_inb _))
    (entry arg1 harg1 x0 (k0_off15 (grid0.coords t)) (k0_off15_inb _)) (entry arg1 harg1 x0 (k0_off16 (grid0.coords t)) (k0_off16_inb _))
    (Scalar.fptosi 32 (k0_pay11 (entry arg1 harg1 x0 (k0_off14 (grid0.coords t)) (k0_off14_inb _))))
    (arg2.view.readAt (Elt F) (Rect.unit (s := S2x128x50x50) (k0_off17 (Scalar.fptosi 32 (entry arg1 harg1 x0 (k0_off12 (grid0.coords t)) (k0_off12_inb _)))
      (Scalar.fptosi 32 (k0_pay11 (entry arg1 harg1 x0 (k0_off14 (grid0.coords t)) (k0_off14_inb _))))) S1x128x24x50.size (k0_off17_inb _ _ (checked t arg1 harg1 x0 hx _))) (harg2.unread x1))
    (scratch.view.readAt (Elt F) (Rect.unit (s := S4x128x24x50) (k0_off18 (grid0.coords t)) S1x128x24x50.size (k0_off18_inb _))
      (landed c x0 M (Ring.sl 4 t.val) (Ring.bk 100 t.val) ((slot (Ring.sl 4 t.val)).view.junk)))

/-- It is the step's box's block. -/
theorem stored_eq : stored c t arg1 harg1 arg2 harg2 x0 hx x1 M = block x0 hx x1 M (Ring.bk 100 t.val) := by
  have hrow : Scalar.fptosi 32 (k0_pay11 (entry arg1 harg1 x0 (k0_off14 (grid0.coords t)) (k0_off14_inb _))) = rowWord x0 (Ring.bk 100 t.val) :=
    congrArg (fun v => Scalar.fptosi 32 (k0_pay11 v)) (entry_eq arg1 harg1 x0 (off14_eq t) _)
  have hbatch : Scalar.fptosi 32 (entry arg1 harg1 x0 (k0_off12 (grid0.coords t)) (k0_off12_inb _)) = (Scalar.fptosi 32 (x0 (boxAt (Ring.bk 100 t.val) 0)) : BitVec 32) :=
    congrArg (fun v => Scalar.fptosi 32 v) (entry_eq arg1 harg1 x0 (off12_eq t) _)
  unfold stored block
  rw [entry_eq arg1 harg1 x0 (off13_eq t), entry_eq arg1 harg1 x0 (off15_eq t), entry_eq arg1 harg1 x0 (off16_eq t),
    mask_load c x0 M _ _ _ _ (off18_eq t), feat_load arg2 harg2 x1 _ _ _ _ hbatch hrow (hx _), hrow, entry_eq arg1 harg1 x0 (off14_eq t)]

/-- What a step's store leaves: the box's block, over the whole of the output's block. -/
abbrev pieces : List (View.Piece (Elt F) S1x128x49 .f32) :=
  [⟨Rect.unit ![0, 0, 0] ![1, 128, 49] inb_S1x128x49_S1x128x49_0_0_0, block x0 hx x1 M (Ring.bk 100 t.val)⟩]

/-- A step in the middle of the grid leaves just that, -/
theorem runMiddle_pieces (h1 : ¬k0_cond1 (grid0.coords t) = 1#1) (h2 : k0_cond2 (grid0.coords t) = 1#1) :
    (runMiddle c t arg1 harg1 arg2 harg2 arg4 harg4 h1 h2 x0 hx x1 M).1 = pieces c t x0 hx x1 M := by
  unfold pieces
  rw [← stored_eq c t arg1 harg1 arg2 harg2 x0 hx x1 M]
  rfl

/-- so does one of the last steps -/
theorem runLast_pieces (h1 : ¬k0_cond1 (grid0.coords t) = 1#1) (h2 : ¬k0_cond2 (grid0.coords t) = 1#1) :
    (runLast c t arg1 harg1 arg2 harg2 arg4 harg4 h1 h2 x0 hx x1 M).1 = pieces c t x0 hx x1 M := by
  unfold pieces
  rw [← stored_eq c t arg1 harg1 arg2 harg2 x0 hx x1 M]
  rfl

/-- and so does the first. -/
theorem runFirst_pieces (ht : t.val = 0) (h1 : k0_cond1 (grid0.coords t) = 1#1) (h2 : k0_cond2 (grid0.coords t) = 1#1) :
    (runFirst c t arg1 harg1 arg2 harg2 arg4 harg4 ht h1 h2 x0 hx x1 M).1 = pieces c t x0 hx x1 M := by
  unfold pieces
  rw [← stored_eq c t arg1 harg1 arg2 harg2 x0 hx x1 M]
  rfl

end Steps

end Cert.KernelIdeal.Roi

end
-- ==== Proof.Launch.lean ====
/- The launch: the pipeline around the body, its proof data, the body at every grid point, and the run — every
   execution ends, faults nowhere, leaves the arguments as they were and every semaphore at zero, and the result's
   block `b` holds `block … b`. -/
module

public import proofs.«01_k».proof.Proof.Block
public import proofs.«01_k».proof.Proof.Gen.KernelIdeal.Frame
public import Idealize.ShloMosaic.Lib.Claim
public import Idealize.ShloMosaic.Lib.Pipeline.Value
public import Idealize.ShloMosaic.Lib.Pipeline.ValueKit.Basic
public import Idealize.ShloMosaic.Lib.Pointwise.Index

@[expose] public section

set_option maxRecDepth 16384

noncomputable section

namespace Cert.KernelIdeal.Roi

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The steps' conditions -/

/-- The first step is point 0, -/
theorem first_iff : ∀ t : Fin cfg0.N, k0_cond1 (grid0.coords t) = 1#1 ↔ t.val = 0 :=
  (by decide +kernel : ∀ t : Fin grid0.N, k0_cond1 (grid0.coords t) = 1#1 ↔ t.val = 0)
/-- and the steps before point 97 start a copy. -/
theorem starts_iff : ∀ t : Fin cfg0.N, k0_cond2 (grid0.coords t) = 1#1 ↔ t.val < 97 :=
  (by decide +kernel : ∀ t : Fin grid0.N, k0_cond2 (grid0.coords t) = 1#1 ↔ t.val < 97)

variable (m : (ℓ : Loc nD τ sig) → Buf (Elt F) ℓ) (ρ : Dev nD → PrngReg)

/-! ## The arguments on a core -/

/-- The boxes, the features and the masks on core `c`, as launched. -/
abbrev boxesOf (c : Dev nD) : Vec F S100x5 .f32 := V m c main_arg1
/-- The features on core `c`, as launched. -/
abbrev featsOf (c : Dev nD) : Vec F S2x128x50x50 .f32 := V m c main_arg0
/-- The masks on core `c`, as launched. -/
abbrev masksOf (c : Dev nD) : Held (F := F) c masks := V m c main_arg2

/-- At every point the boxes' window holds all the boxes, -/
theorem boxes_blk (c : Dev nD) (t : Fin cfg0.N) : iblk m c 0 t = boxesOf m c := by
  funext y
  show V m c main_arg1 _ = _
  congr 1
  funext a
  apply Fin.ext
  exact Pipeline.Window.rect_emb_val_of_index_zero _ _ _ (by fin_cases a <;> rfl) _
/-- and the features' window both feature maps. -/
theorem feats_blk (c : Dev nD) (t : Fin cfg0.N) : iblk m c 1 t = featsOf m c := by
  funext y
  show V m c main_arg0 _ = _
  congr 1
  funext a
  apply Fin.ext
  exact Pipeline.Window.rect_emb_val_of_index_zero _ _ _ (by fin_cases a <;> rfl) _

/-! ## The launch's set-up -/

/-- The program is the launch and nothing else. -/
theorem enter (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- Before each point the staging buffer of the boxes holds their block, -/
theorem staged0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- and that of the features theirs. -/
theorem staged1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The staging memref of the boxes at a point, -/
abbrev stg0 (t : Fin cfg0.N) : Memref sig .tc .smem S100x5 .f32 := win0_0.stage (cfg0.slots t 0)
/-- a whole buffer; -/
abbrev whole0 (t : Fin cfg0.N) : (stg0 t).IsWhole := hstage0_0 ((cfg0.slots t 0).cast nbuf0_0)
/-- that of the features, -/
abbrev stg1 (t : Fin cfg0.N) : Memref sig .tc .vmem S2x128x50x50 .f32 := win0_1.stage (cfg0.slots t 1)
/-- whole too; -/
abbrev whole1 (t : Fin cfg0.N) : (stg1 t).IsWhole := hstage0_1 ((cfg0.slots t 1).cast nbuf0_1)
/-- and that of the result, -/
abbrev stg2 (t : Fin cfg0.N) : Memref sig .tc .vmem S1x128x49 .f32 := win0_2.stage (cfg0.slots t 2)
/-- whole as well. -/
abbrev whole2 (t : Fin cfg0.N) : (stg2 t).IsWhole := hstage0_2 ((cfg0.slots t 2).cast nbuf0_2)

/-- The body's own semaphores, and the array it reads outside the pipeline. -/
abbrev ownSem : Fin 4 → SemLoc sig := fun j => (![SemLoc.dma 4, SemLoc.dma 5, SemLoc.dma 6, SemLoc.dma 7] : Fin 4 → SemLoc sig) j
/-- The body's own semaphores are none of the pipeline's. -/
theorem ownSem_facts : Pipeline.OwnSemFacts spec0 ownSem := by decide
/-- They start at zero, one by one. -/
theorem ownSem_list (c : Dev nD) :
    (Pipeline.ownSems0 (Ix := Unit) (Name := ℕ) (U := Pipeline.UD sig nD τ) (Lvl := ℕ) (Val := Elt F) (τ := τ) ownSem c : sProp 𝕄) = zeroCells c := by
  rw [Pipeline.ownSems0_eq_of_list c ownSem [0, 1, 2, 3] (by decide) (by decide)]; rfl
/-- The masks, which the body copies from by itself. -/
def direct : Finset (Ref sig .tc) := {main_arg2}
/-- They are none of the arrays that the pipeline moves. -/
theorem direct_sub : direct ⊆ Pipeline.restRefs sig spec0 := by decide
/-- What the body holds of them: the whole array. -/
theorem direct_list (c : Dev nD) :
    (bigSep direct (fun b => ((c : Thread nD τ).loc b) ↦{fullShare} V m c b) : sProp 𝕄)
      = (masks.view.loc (c : Thread nD τ) ↦{fullShare} masksOf m c) := by
  rw [BI.bigSep_eq_bigSepL_of_eq [main_arg2] (by decide) (by decide)]; rfl
/-- All that the body holds besides the pipeline's buffers. -/
theorem region_eq (c : Dev nD) :
    (Pipeline.ΦD ownSem spec0 direct (V m) c : sProp 𝕄)
      = iprop((∃ d, owns (c : Thread nD τ) scratch fullShare d) ∗ (∃ r, prngReg c r) ∗ zeroCells c ∗ (masks.view.loc (c : Thread nD τ) ↦{fullShare} masksOf m c)) := by
  rw [Pipeline.ΦD_eq, scopedRest0_eq, ownSem_list, direct_list]; simp only [scratch, owns_whole]; try rfl

/-! ## The proof data -/

/-- Before step `k`: the generator's register at some state, and the ring. -/
def inv (c : Dev nD) (k : ℕ) : sProp 𝕄 := iprop((∃ r, prngReg c r) ∗ ring c (boxesOf m c) (masksOf m c) k)

variable (hb : ∀ c, BatchOk (boxesOf m c))

/-- The pipeline's proof data: each input's buffer at its block, the output's at the box's block. -/
def data (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => block (boxesOf m c) (hb c) (featsOf m c) (masksOf m c) (Ring.bk 100 t.val)
  Φ t := inv m c t.val
  q _ := fullShare
  owed _ := 0

/-- The arrays are those launched. -/
theorem data_A (c : Dev nD) (w : Fin cfg0.W) : (data m hb 0 c).A w = V m c (Pipeline.arrRef spec0 w) := by dsimp only [data]
/-- The invariant before a point, -/
theorem inv_here (c : Dev nD) (t : Fin cfg0.N) : (data m hb 0 c).Φ t.castSucc = inv m c t.val := by
  dsimp only [data]; simp only [Fin.coe_castSucc]
/-- and after it. -/
theorem inv_next (c : Dev nD) (t : Fin cfg0.N) : (data m hb 0 c).Φ t.succ = inv m c (t.val + 1) := by
  dsimp only [data]; simp only [Fin.val_succ]
/-- A point leaves the boxes as they were, -/
theorem left0 (c : Dev nD) (t : Fin cfg0.N) : (data m hb 0 c).after 0 t = iblk m c 0 t := by dsimp only [data]
/-- the features too, -/
theorem left1 (c : Dev nD) (t : Fin cfg0.N) : (data m hb 0 c).after 1 t = iblk m c 1 t := by dsimp only [data]
/-- and its block of the result. -/
theorem left2 (c : Dev nD) (t : Fin cfg0.N) : (data m hb 0 c).after 2 t
    = block (boxesOf m c) (hb c) (featsOf m c) (masksOf m c) (Ring.bk 100 t.val) := by dsimp only [data]
/-- The boxes are staged before a point, -/
theorem staged0 (c : Dev nD) (t : Fin cfg0.N) (d) : (data m hb 0 c).before 0 t d = iblk m c 0 t :=
  staged0_of m (data m hb 0 c) (data_A m hb c 0) (left0 m hb c) t d
/-- and the features. -/
theorem staged1 (c : Dev nD) (t : Fin cfg0.N) (d) : (data m hb 0 c).before 1 t d = iblk m c 1 t :=
  staged1_of m (data m hb 0 c) (data_A m hb c 1) (left1 m hb c) t d

/-! ## The body at a point -/

/-- What the body of a point starts with. -/
def bodyPre (c : Dev nD) (t : Fin cfg0.N) : sProp 𝕄 :=
  iprop((data m hb 0 c).Φ t.castSucc ∗ (data m hb 0 c).owesAt () t.castSucc
    ∗ (∃ d, owns (c : Thread nD τ) (stg0 t) fullShare ((data m hb 0 c).before 0 t d))
    ∗ (∃ d, owns (c : Thread nD τ) (stg1 t) fullShare ((data m hb 0 c).before 1 t d))
    ∗ (∃ d, owns (c : Thread nD τ) (stg2 t) fullShare ((data m hb 0 c).before 2 t d)))
/-- What it ends with. -/
def bodyPost (c : Dev nD) (t : Fin cfg0.N) : sProp 𝕄 :=
  iprop((data m hb 0 c).Φ t.succ ∗ (data m hb 0 c).owesAt () t.succ
    ∗ owns (c : Thread nD τ) (stg0 t) fullShare ((data m hb 0 c).after 0 t)
    ∗ owns (c : Thread nD τ) (stg1 t) fullShare ((data m hb 0 c).after 1 t)
    ∗ owns (c : Thread nD τ) (stg2 t) fullShare ((data m hb 0 c).after 2 t))

/-- A whole block stored reads back as it was stored. -/
theorem stored_whole (v : View sig .tc .vmem S1x128x49 .f32) (g : v.ty.Contents (Elt F)) (p : FVec F S1x128x49 .f32) :
    v.read (Elt F) (v.writes (Elt F) g [⟨Rect.unit ![0, 0, 0] ![1, 128, 49] inb_S1x128x49_S1x128x49_0_0_0, p⟩]) = p := by
  funext y
  exact View.read_writes_cons_unit_of_mem v g inb_S1x128x49_S1x128x49_0_0_0 p [] y y rfl fun a => by
    fin_cases a <;> simp

set_option maxHeartbeats 1200000 in
/-- The body at any point: whichever kind of step it is, it takes the ring as it stands before the point to the
    ring before the next, and leaves the box's block in the output's buffer. -/
theorem body_run (c : Dev nD) (t : Fin cfg0.N) :
    bodyPre m hb c t ⊢ wp frame (wpE (defs₀ (F := F)) Variants.none c none) Set.univ (bodyAt0 t) (fun _ => bodyPost m hb c t) := by
  unfold bodyPre bodyPost bodyAt0
  simp only [staged0, staged1]
  rw [left0, left1, left2]
  rw [inv_here m hb c t, inv_next m hb c t]
  unfold Dat.owesAt Pipeline.owesWithin
  rw [show (data m hb 0 c).owed t.castSucc = 0 from rfl, show (data m hb 0 c).owed t.succ = 0 from rfl]
  rw [boxes_blk, feats_blk]
  unfold inv ring
  have hgN : grid0.N = 100 := N_0
  have hN : t.val < 100 := lt_of_lt_of_eq t.isLt (show cfg0.N = 100 from N_0)
  by_cases h0 : t.val = 0
  · have c1 := (first_iff t).mpr h0
    have c2 := (starts_iff t).mpr (by omega)
    rw [if_pos h0, if_neg (show ¬t.val + 1 = 0 by omega)]
    rw [Ring.At₀_eq4' _ _ _ t.val h0 (by decide : 4 ≤ 100), Ring.At4_one' _ _ _ _ t.val h0 (by decide : 4 ≤ 100)]
    iintro ⟨⟨Hg, ⟨-, Ra, Rb, Rc, Rd⟩⟩, ⟨%W, -, HW⟩, ⟨%d0, H0⟩, ⟨%d1, H1⟩, ⟨%d2, H2⟩⟩
    iapply ((runFirst c t _ (whole0 t) _ (whole1 t) _ (whole2 t) h0 c1 c2 (boxesOf m c) (hb c) (featsOf m c) (masksOf m c)).2 W _)
    isplitl [H0]; · iexact H0
    isplitl [H1]; · iexact H1
    isplitl [H2]; · iexists _; iexact H2
    isplitl [Ra]; · iexact Ra
    isplitl [Rb]; · iexact Rb
    isplitl [Rc]; · iexact Rc
    isplitl [Rd]; · iexact Rd
    isplitl [HW]; · iexact HW
    iintro ⟨H0, H1, ⟨%e2, H2⟩, Ra, Rb, Rc, Rd, ⟨%W', HW'⟩⟩
    isplitl [Hg Ra Rb Rc Rd]
    · isplitl [Hg]; · iexact Hg
      iapply (Ring.with_homes (Idealize.SL.BI.Entails.refl _))
      isplitl [Ra]; · iexact Ra
      isplitl [Rb]; · iexact Rb
      isplitl [Rc]; · iexact Rc
      iexact Rd
    isplitl [HW']
    · iexists W'; isplitr; · ipureintro; exact fun _ _ => Or.inl trivial
      iexact HW'
    isplitl [H0]; · iexact H0
    isplitl [H1]; · iexact H1
    unfold owns; iexists _; isplitr
    swap; · iexact H2
    ipureintro; rw [runFirst_pieces]; exact stored_whole _ _ _
  · have c1 : ¬k0_cond1 (grid0.coords t) = 1#1 := fun h => h0 ((first_iff t).mp h)
    rw [if_neg h0, if_neg (show ¬t.val + 1 = 0 by omega)]
    by_cases h1 : t.val < 97
    · have c2 := (starts_iff t).mpr h1
      rw [Ring.At4_here _ _ _ _ t.val (by omega), Ring.At4_next _ _ _ _ t.val (by omega), Ring.slotAt4_next0 _ _ _ t.val (by omega), Ring.slotAt4_next1 _ _ _ t.val (by omega), Ring.slotAt4_next2 _ _ _ t.val (by omega)]
      iintro ⟨⟨Hg, ⟨-, Ra, Rb, Rc, Rd⟩⟩, ⟨%W, -, HW⟩, ⟨%d0, H0⟩, ⟨%d1, H1⟩, ⟨%d2, H2⟩⟩
      iapply ((runMiddle c t _ (whole0 t) _ (whole1 t) _ (whole2 t) c1 c2 (boxesOf m c) (hb c) (featsOf m c) (masksOf m c)).2 W _)
      isplitl [H0]; · iexact H0
      isplitl [H1]; · iexact H1
      isplitl [H2]; · iexists _; iexact H2
      isplitl [Ra]; · iexact Ra
      isplitl [Rb]; · iexact Rb
      isplitl [Rc]; · iexact Rc
      isplitl [Rd]; · iexact Rd
      isplitl [HW]; · iexact HW
      iintro ⟨H0, H1, ⟨%e2, H2⟩, Ra, Rb, Rc, Rd, ⟨%W', HW'⟩⟩
      isplitl [Hg Ra Rb Rc Rd]
      · isplitl [Hg]; · iexact Hg
        iapply (Ring.with_homes (Idealize.SL.BI.Entails.refl _))
        isplitl [Ra]; · iexact Ra
        isplitl [Rb]; · iexact Rb
        isplitl [Rc]; · iexact Rc
        iexact Rd
      isplitl [HW']
      · iexists W'; isplitr; · ipureintro; exact fun _ _ => Or.inl trivial
        iexact HW'
      isplitl [H0]; · iexact H0
      isplitl [H1]; · iexact H1
      unfold owns; iexists _; isplitr
      swap; · iexact H2
      ipureintro; rw [runMiddle_pieces]; exact stored_whole _ _ _
    · have c2 : ¬k0_cond2 (grid0.coords t) = 1#1 := fun h => h1 ((starts_iff t).mp h)
      rw [Ring.At4_here_tail _ _ _ _ t.val (by omega), Ring.At4_next_tail _ _ _ _ t.val (by omega) (by omega), Ring.slotAt4_tail_role _ _ _ t.val, Ring.slotAt4_tail_role1 _ _ _ t.val]
      iintro ⟨⟨Hg, ⟨-, Ra, Rb, Rc, Rd⟩⟩, ⟨%W, -, HW⟩, ⟨%d0, H0⟩, ⟨%d1, H1⟩, ⟨%d2, H2⟩⟩
      iapply ((runLast c t _ (whole0 t) _ (whole1 t) _ (whole2 t) c1 c2 (boxesOf m c) (hb c) (featsOf m c) (masksOf m c)).2 W _)
      isplitl [H0]; · iexact H0
      isplitl [H1]; · iexact H1
      isplitl [H2]; · iexists _; iexact H2
      isplitl [Ra]; · iexact Ra
      isplitl [Rb]; · iexact Rb
      isplitl [Rc]; · iexact Rc
      isplitl [Rd]; · iexact Rd
      isplitl [HW]; · iexact HW
      iintro ⟨H0, H1, ⟨%e2, H2⟩, Ra, Rb, Rc, Rd, ⟨%W', HW'⟩⟩
      isplitl [Hg Ra Rb Rc Rd]
      · isplitl [Hg]; · iexact Hg
        iapply (Ring.with_homes (Idealize.SL.BI.Entails.refl _))
        isplitl [Ra]; · iexact Ra
        isplitl [Rb]; · iexact Rb
        isplitl [Rc]; · iexact Rc
        iexact Rd
      isplitl [HW']
      · iexists W'; isplitr; · ipureintro; exact fun _ _ => Or.inl trivial
        iexact HW'
      isplitl [H0]; · iexact H0
      isplitl [H1]; · iexact H1
      unfold owns; iexists _; isplitr
      swap; · iexact H2
      ipureintro; rw [runLast_pieces]; exact stored_whole _ _ _

/-- The body of a point is the entry of the table of bodies at it. -/
theorem body_row (t : Fin cfg0.N) :
    defs₀ (F := F) .tc cfg0.body (cfg0.bodyArgs t (cfg0.slots t)) = bodyAt0 t := by
  unfold defs₀; rw [Defs.onTc_tc]
/-- The body of every point does what the launch asks of it. -/
theorem body_obligation (c : Dev nD) : BodyObligation (data (F := F) m hb 0 c) (defs₀ (F := F)) Variants.none () Set.univ := fun t => by
  rw [bigSep_W0, bigSep_W0, body_row]
  exact triple_restated (body_run m hb c t) rfl .rfl fun _ => .rfl

/-- The launch hands the region the invariant before the first point; -/
theorem region_in (c : Dev nD) : Pipeline.ΦD ownSem spec0 direct (V m) c ⊢ (data m hb 0 c).Φ 0 := by
  rw [region_eq, show (data m hb 0 c).Φ 0 = inv m c 0 from rfl]
  unfold inv
  iintro ⟨HS, Hg, HC, HM⟩
  isplitl [Hg]; · iexact Hg
  iapply (ring_in (F := F) c (boxesOf m c) (masksOf m c))
  isplitl [HS]; · iexact HS
  isplitl [HC]; · iexact HC
  iexact HM
/-- after the last it takes it back. -/
theorem region_out (c : Dev nD) : (data m hb 0 c).Φ (Fin.last cfg0.N) ⊢ Pipeline.ΦD ownSem spec0 direct (V m) c := by
  rw [region_eq, show (data m hb 0 c).Φ (Fin.last cfg0.N) = inv m c grid0.N from rfl]
  unfold inv
  rw [show grid0.N = 100 by rw [N_0]]
  iintro ⟨Hg, HR⟩
  ihave HX := (ring_out (F := F) c (boxesOf m c) (masksOf m c)) $$ HR
  icases HX with ⟨HS, HC, HM⟩
  isplitl [HS]; · iexact HS
  isplitl [Hg]; · iexact Hg
  isplitl [HC]; · iexact HC
  iexact HM

/-! ## The run -/

set_option backward.isDefEq.respectTransparency.types false in
/-- From any memory whose boxes name feature maps, every execution ends with the pipeline's arrays at what the proof data
    says and every semaphore at zero. -/
theorem run_all : θ_run defs (onTc (τ := τ) (main (F := F))) (s₀ m ρ)
    (fun r => (Pipeline.FramePost cfgs (data m hb) 0 (V m)) r ∧ r.2.sem = fun _ => 0) :=
  Pipeline.θ_run_frame_dma (Q' := _) cfgs (data m hb) (0 : Fin 1) launch0 ownSem defs₀ Variants.none ownSem_facts direct direct_sub m ρ main
    (hbody := fun c => (body_obligation m hb c).loose) (hshare := fun c => (data m hb 0 c).share_full fun _ => rfl)
    (howed := fun _ _ => rfl) (V := V m) (hmain := enter m Variants.none) (hA := data_A m hb)
    (hin := region_in m hb) (hout := region_out m hb)

include hb in
/-- The arguments end as they were, and every semaphore ends at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨((h.1 c).1 1).trans (((data m hb 0 c).arrAt_in 1 rfl _).trans ((data_A m hb c 1).trans (V_main_arg0 m c))),
      ((h.1 c).1 0).trans (((data m hb 0 c).arrAt_in 0 rfl _).trans ((data_A m hb c 0).trans (V_main_arg1 m c))),
      ((h.1 c).2 main_arg2 (Pipeline.mem_restRefs_of main_arg2 (by decide) (by decide))).trans (V_main_arg2 m c)⟩, h.2⟩)
    (run_all m ρ hb)

/-! ## The result, block by block -/

/-- Distinct points write distinct blocks. -/
theorem index_inj : ∀ t t' : Fin cfg0.N, win0_2.index t = win0_2.index t' → t = t' :=
  (by decide +kernel : ∀ t t' : Fin grid0.N, win0_2.index t = win0_2.index t' → t = t')
/-- The blocks that two points write do not meet. -/
theorem blocks_apart : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (index_inj t t' h)

/-- The result: at box `b`, channel `ch` and cell `r`, the box's block. -/
def result (c : Dev nD) : Vec F S100x128x49 .f32 := fun i =>
  block (boxesOf m c) (hb c) (featsOf m c) (masksOf m c) (i 0) (ix3 (0 : Fin 1) (i 1) (i 2))

/-- The array the launch leaves is the result. -/
theorem array_eq (c : Dev nD) : (data m hb 0 c).arrAt 2 cfg0.N = result m hb c := by
  have hgN : grid0.N = 100 := N_0
  funext i
  let t : Fin cfg0.N := ⟨(i 0).val, by rw [show cfg0.N = 100 from N_0]; exact (i 0).isLt⟩
  have ht : (win0_2.index t 0, win0_2.index t 1, win0_2.index t 2) = (t.val, 0, 0) :=
    (by decide +kernel : ∀ t : Fin grid0.N, (win0_2.index t 0, win0_2.index t 1, win0_2.index t 2) = (t.val, 0, 0)) t
  simp only [Prod.mk.injEq] at ht
  let y : ((cfg0.win 2).xblock (cfg0.grid.coords t)).Idx := ix3 (0 : Fin 1) (i 1) (i 2)
  have hy : ((cfg0.win 2).blk t).view.emb y = i := by
    show ((cfg0.win 2).rect t).emb y = i
    funext a; apply Fin.ext
    have e := Pipeline.Window.rect_emb_val win0_2 t y a rfl
    refine e.trans ?_
    fin_cases a
    · show win0_2.index t 0 * 1 + 0 = _; rw [ht.1]; simp [t]
    · show win0_2.index t 1 * 128 + (i 1).val = _; rw [ht.2.1]; simp
    · show win0_2.index t 2 * 49 + (i 2).val = (i 2).val; rw [ht.2.2]; simp
  have h := (data m hb 0 c).arrAt_emb_eq_flushed 2 blocks_apart t (flush0_2 t) y
  rw [hy] at h
  refine h.trans ?_
  show (data m hb 0 c).after 2 t _ = _
  rw [left2]
  unfold result
  have hbk : Ring.bk 100 t.val = i 0 := Fin.ext (Ring.bk_val (i 0).isLt)
  rw [hbk]
  rfl

/-- The run with its result named: the array ends holding `result`, the arguments as they were. -/
theorem run_result : θ_run defs (onTc (τ := τ) (main (F := F))) ⟨m, fun _ => 0, ρ⟩ fun r => ∀ c : Dev nD,
      r.2.mem ((c.tc : Thread nD τ).loc main_v0) = result m hb c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h.1 c).1 2).trans (array_eq m hb c),
      ((h.1 c).1 1).trans (((data m hb 0 c).arrAt_in 1 rfl _).trans ((data_A m hb c 1).trans (V_main_arg0 m c))),
      ((h.1 c).1 0).trans (((data m hb 0 c).arrAt_in 0 rfl _).trans ((data_A m hb c 0).trans (V_main_arg1 m c))),
      ((h.1 c).2 main_arg2 (Pipeline.mem_restRefs_of main_arg2 (by decide) (by decide))).trans (V_main_arg2 m c)⟩)
    (run_all m ρ hb)

end Cert.KernelIdeal.Roi

end
-- ==== Proof.Frames.lean ====
/- The two kernels' runs that read bits, from the one run over any float values. -/
module

public import proofs.«01_k».proof.Proof.Launch
public import proofs.«01_k».proof.Proof.Gen.Kernel
public import Idealize.ShloMosaic.PureOps.BitExact

@[expose] public section

noncomputable section

namespace Cert.Kernel.Roi

open Cert.Kernel Cert.Kernel.Gen
open Idealize.ShloMosaic Idealize.ShloMosaic.TcCoe Idealize.SL.Sem

/-- The two printed kernels have one body, -/
theorem body_eq : @cc0__roi_kernel Bits _ Cert.Kernel.Gen.facts = @Cert.KernelIdeal.cc0__roi_kernel Bits _ Cert.KernelIdeal.Gen.facts := rfl
/-- so their body tables are one, -/
theorem bodies_eq : defs₀ (F := Bits) = Cert.KernelIdeal.defs₀ (F := Bits) := by
  unfold defs₀ Cert.KernelIdeal.defs₀
  refine congrArg (Defs.onTc (Λ := Λ₀)) ?_
  funext l x
  match l, x with
  | 0, (t, s) => exact congrFun (congrFun (congrFun (congrFun (congrFun (congrFun (congrFun (congrFun (congrFun (congrFun (congrFun (congrFun body_eq _) _) _) _) _) _) _) _) _) _) _) _
  | ⟨_ + 1, h⟩, _ => exact absurd h (Nat.not_lt.2 (Nat.le_add_left _ _))
/-- with the pipeline's entries too. -/
theorem table_eq : defs (F := Bits) = Cert.KernelIdeal.defs (F := Bits) := by
  show Pipeline.defs (Cert.KernelIdeal.pcfgs (F := Bits)) (defs₀ (F := Bits)) = Pipeline.defs (Cert.KernelIdeal.pcfgs (F := Bits)) (Cert.KernelIdeal.defs₀ (F := Bits))
  rw [bodies_eq]

/-- The printed kernel and its ideal reading are one text, so the run over any float values is the kernel's run over
    bits: it ends, leaves the arguments as they were and every semaphore at zero. -/
theorem quiet (m : (ℓ : Loc nD τ sig) → Buf (Elt Bits) ℓ) (ρ : Dev nD → PrngReg)
    (hb : ∀ c : Dev nD, Cert.KernelIdeal.Roi.BatchOk (F := Bits) (m ((c.tc : Thread nD τ).loc main_arg1))) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [table_eq]
  exact Cert.KernelIdeal.Roi.quiet (F := Bits) m ρ hb

end Cert.Kernel.Roi

end
-- ==== Proof.Batch.lean ====
/- What the frames' precondition says of one box. -/
module

public import proofs.«01_k».proof.Pre_batch_in_range
public import proofs.«01_k».proof.Proof.Window
public import Idealize.ShloMosaic.Lib.Pointwise

@[expose] public section

noncomputable section

/-- The shape relations of the frames' precondition. -/
theorem Cert.Pre_batch_in_range.shapes : Cert.Pre_batch_in_range.Facts where
  slices_S100x5_S100x1_0_0 := by decide
  shapeCasts_S100x1_S100 := by decide
  bcast_S_S100 := by decide

namespace Cert.KernelIdeal.Roi

open Cert.KernelIdeal Cert.KernelIdeal.Gen
open Idealize.ShloMosaic

variable {F : FTy → Type} [FloatOps F]

/-- An entry of the boxes by its row and column. -/
theorem boxAt_eq (b : Fin 100) (k : Fin 5) : boxAt b k = ix2 b k := by
  funext a; fin_cases a <;> rfl

/-- A word at least 0 and below 2, both signed, is 0 or 1. -/
theorem word_below_two (w : BitVec 32) (h : IntOp.andi (IntOp.cmpi .sge w 0#32) (IntOp.cmpi .slt w 2#32) = 1#1) : w.toNat < 2 := by
  have h2 : ((0#32).sle w && w.slt 2#32) = true := by
    have h' : BitVec.ofBool ((0#32).sle w) &&& BitVec.ofBool (w.slt 2#32) = 1#1 := h
    revert h'; clear h
    cases (0#32).sle w <;> cases w.slt 2#32 <;> decide
  rw [Bool.and_eq_true, BitVec.sle_iff_toInt_le, BitVec.slt_iff_toInt_lt] at h2
  have e := BitVec.toInt_eq_toNat_cond w
  have e0 : (0#32).toInt = 0 := by decide
  have e2 : (2#32).toInt = 2 := by decide
  have := w.isLt
  rw [e, e0, e2] at h2
  split at h2 <;> omega

/-- The frames' precondition, where the host's and the scalar unit's conversions to words agree: every box names one
    of the two feature maps. -/
theorem batchOk_of_batch_in_range [Cert.Pre_batch_in_range.Facts] (hs : ∀ x : F .f32, FloatOps.fptosi 32 x = Scalar.fptosi 32 x)
    (x1 : FVec F S2x128x50x50 .f32) (x0 : FVec F S100x5 .f32)
    (M : FVec F S100x128x50x50 .f32) (h : Cert.Pre_batch_in_range.fn x1 x0 M = fun _ => 1#1) : BatchOk (F := F) x0 := by
  intro b
  have hb := congrFun h (ix1 b)
  unfold Cert.Pre_batch_in_range.fn at hb
  pointwise at hb
  rw [boxAt_eq, ← hs]
  exact word_below_two _ hb

/-- Over bits the vector and the scalar unit convert a float to a word alike, -/
theorem word_conversions_bits (x : Bits .f32) : FloatOps.fptosi 32 x = Scalar.fptosi 32 x := rfl
/-- and over the extended reals too. -/
theorem word_conversions_ideal (x : Ideal .f32) : FloatOps.fptosi 32 x = Scalar.fptosi 32 x := rfl

end Cert.KernelIdeal.Roi

end
-- ==== Proof.Sample.lean ====
/- One coordinate of a bilinear sample over the extended reals: the grid lines on its two sides, how far it lies past
   the lower one, whether it counts, and the weights that a grid line has in it. No program is mentioned here. -/
module

public import Idealize.ShloMosaic.Lib.Pointwise
public import Idealize.ShloMosaic.Lib.IdealHost

@[expose] public section

noncomputable section

namespace Cert.Sample

open Idealize.ShloMosaic

/-- The grid line at or below a coordinate, held to the grid's 50 lines. -/
def low (p : EReal) : ℕ := if p = ⊤ then 49 else min ⌊p.toReal⌋₊ 49
/-- The grid line after it, or the last one again. -/
def high (p : EReal) : ℕ := min (low p + 1) 49
/-- How far the coordinate lies past `low`; nothing at the last line. -/
def part (p : EReal) : ℝ := if 49 ≤ low p then 0 else max p.toReal 0 - low p
/-- A coordinate counts from one before the grid to one past it. -/
def Counts (p : EReal) : Prop := -1 ≤ p ∧ p ≤ 50

/-- Whether a coordinate counts can be asked. -/
instance (p : EReal) : Decidable (Counts p) := Classical.propDecidable _

/-- The lower line is in the grid, -/
theorem low_le (p : EReal) : low p ≤ 49 := by
  unfold low; split <;> omega
/-- and so is the upper one. -/
theorem high_le (p : EReal) : high p ≤ 49 := by
  unfold high; omega

/-- The number 49, as the programs write it. -/
theorem ofBits_49 : Ideal.ofBits .f32 0x42440000#32 = ((49 : ℝ) : EReal) := by
  simp [Ideal.ofBits, Ideal.ieee, -EReal.coe_mul]; norm_num
/-- The number 50. -/
theorem ofBits_50 : Ideal.ofBits .f32 0x42480000#32 = ((50 : ℝ) : EReal) := by
  simp [Ideal.ofBits, Ideal.ieee, -EReal.coe_mul]; norm_num
/-- The number 14. -/
theorem ofBits_14 : Ideal.ofBits .f32 0x41600000#32 = ((14 : ℝ) : EReal) := by
  simp [Ideal.ofBits, Ideal.ieee, -EReal.coe_mul]; norm_num
/-- The number 22. -/
theorem ofBits_22 : Ideal.ofBits .f32 0x41B00000#32 = ((22 : ℝ) : EReal) := by
  simp [Ideal.ofBits, Ideal.ieee, -EReal.coe_mul]; norm_num
/-- The number 7. -/
theorem ofBits_7 : Ideal.ofBits .f32 0x40E00000#32 = ((7 : ℝ) : EReal) := by
  simp [Ideal.ofBits, Ideal.ieee, -EReal.coe_mul]; norm_num
/-- The number 4. -/
theorem ofBits_4 : Ideal.ofBits .f32 0x40800000#32 = ((4 : ℝ) : EReal) := by
  simp [Ideal.ofBits, Ideal.ieee, -EReal.coe_mul]; norm_num
/-- The number 2. -/
theorem ofBits_2 : Ideal.ofBits .f32 0x40000000#32 = ((2 : ℝ) : EReal) := by
  simp [Ideal.ofBits, Ideal.ieee, -EReal.coe_mul]; norm_num
/-- The number 1/2. -/
theorem ofBits_half : Ideal.ofBits .f32 0x3F000000#32 = ((1 / 2 : ℝ) : EReal) := by
  simp [Ideal.ofBits, Ideal.ieee, -EReal.coe_mul]; norm_num
/-- The number 1/4. -/
theorem ofBits_quarter : Ideal.ofBits .f32 0x3E800000#32 = ((1 / 4 : ℝ) : EReal) := by
  simp [Ideal.ofBits, Ideal.ieee, -EReal.coe_mul]; norm_num
/-- The number -1. -/
theorem ofBits_neg_one : Ideal.ofBits .f32 0xBF800000#32 = ((-1 : ℝ) : EReal) := by
  simp [Ideal.ofBits, Ideal.ieee, -EReal.coe_mul]; norm_num
/-- The number 1. -/
theorem ofBits_one : Ideal.ofBits .f32 0x3F800000#32 = ((1 : ℝ) : EReal) := by
  rw [Ideal.ofBits_one_f32]; rfl

/-- The coordinate held at the grid's start, rounded down: a natural number, or the greatest value. -/
theorem floor_start (r : ℝ) : ⌊max r 0⌋ = (⌊r⌋₊ : ℤ) := by
  rcases le_total r 0 with h | h
  · rw [max_eq_right h, Nat.floor_of_nonpos h]; simp
  · rw [max_eq_left h, Int.natCast_floor_eq_floor h]

/-- The greater of two real numbers, taken in the extended reals. -/
theorem coe_max (r s : ℝ) : max (r : EReal) (s : EReal) = ((max r s : ℝ) : EReal) := (EReal.coe_strictMono.monotone.map_max).symm
/-- The lesser of the two. -/
theorem coe_min (r s : ℝ) : min (r : EReal) (s : EReal) = ((min r s : ℝ) : EReal) := (EReal.coe_strictMono.monotone.map_min).symm
/-- A real number held at 0. -/
theorem coe_max_zero (r : ℝ) : max (r : EReal) 0 = ((max r 0 : ℝ) : EReal) := coe_max r 0

/-- `low` as computed in the extended reals. -/
theorem low_eq (p : EReal) : min (Ideal.liftRound Int.floor (max p 0)) ((49 : ℝ) : EReal) = ((low p : ℝ) : EReal) := by
  induction p with
  | bot =>
    have e : max (⊥ : EReal) 0 = ((0 : ℝ) : EReal) := by simp
    rw [e, Ideal.liftRound_coe, coe_min]
    simp [low]
  | top =>
    have e : max (⊤ : EReal) 0 = ⊤ := by simp
    rw [e, Ideal.liftRound_top]
    simp [low]
  | coe r =>
    rw [coe_max_zero, Ideal.liftRound_coe, floor_start, coe_min]
    simp [low]

/-- `high` as computed in the extended reals. -/
theorem high_eq (p : EReal) : min (((low p : ℝ) : EReal) + ((1 : ℝ) : EReal)) ((49 : ℝ) : EReal) = ((high p : ℝ) : EReal) := by
  rw [← EReal.coe_add, coe_min]
  simp [high]

/-- `part` as computed in the extended reals. -/
theorem part_eq (p : EReal) :
    (if 49 ≤ low p then ((low p : ℝ) : EReal) else max p 0) - ((low p : ℝ) : EReal) = ((part p : ℝ) : EReal) := by
  unfold part
  split
  · rw [← EReal.coe_sub]; simp
  · next h =>
    induction p with
    | bot =>
      have e : max (⊥ : EReal) 0 = ((0 : ℝ) : EReal) := by simp
      rw [e, ← EReal.coe_sub]; simp
    | top => simp [low] at h
    | coe r => rw [coe_max_zero, ← EReal.coe_sub]; simp

/-- The part is not negative -/
theorem part_nonneg (p : EReal) : 0 ≤ part p := by
  unfold part
  split
  · exact le_rfl
  · next h =>
    induction p with
    | bot => simp [low]
    | top => simp [low] at h
    | coe r =>
      have hl : low (r : EReal) = ⌊r⌋₊ := by
        simp only [low, EReal.coe_ne_top, if_false, EReal.toReal_coe] at h ⊢; omega
      rw [hl, EReal.toReal_coe, sub_nonneg]
      rcases le_total r 0 with h0 | h0
      · rw [Nat.floor_of_nonpos h0]; simp
      · exact (Nat.floor_le h0).trans (le_max_left _ _)

/-- and at most 1. -/
theorem part_le_one (p : EReal) : part p ≤ 1 := by
  unfold part
  split
  · norm_num
  · next h =>
    induction p with
    | bot => simp [low]
    | top => simp [low] at h
    | coe r =>
      have hl : low (r : EReal) = ⌊r⌋₊ := by
        simp only [low, EReal.coe_ne_top, if_false, EReal.toReal_coe] at h ⊢; omega
      rw [hl, EReal.toReal_coe, sub_le_iff_le_add]
      have := (Nat.lt_floor_add_one r).le
      exact max_le (by linarith) (by positivity)

/-- A natural number below 2^31, as a word read signed. -/
theorem toInt_ofNat (n : ℕ) (h : n < 2147483648) : (BitVec.ofNat 32 n).toInt = (n : ℤ) := by
  rw [BitVec.toInt_eq_toNat_of_lt, BitVec.toNat_ofNat, Nat.mod_eq_of_lt (by omega)]
  rw [BitVec.toNat_ofNat, Nat.mod_eq_of_lt (by omega)]; omega

/-- The signed minimum of two natural numbers below 2^31. -/
theorem minsi_ofNat (n k : ℕ) (hn : n < 2147483648) (hk : k < 2147483648) :
    IntOp.minsi (BitVec.ofNat 32 n) (BitVec.ofNat 32 k) = BitVec.ofNat 32 (min n k) := by
  unfold IntOp.minsi
  rw [BitVec.slt, toInt_ofNat n hn, toInt_ofNat k hk]
  by_cases h : n < k
  · simp [h, min_eq_left h.le]
  · simp [h, min_eq_right (not_lt.mp h)]

/-- The signed maximum of a natural number below 2^31 and zero. -/
theorem maxsi_ofNat (n : ℕ) (hn : n < 2147483648) : IntOp.maxsi (BitVec.ofNat 32 n) 0#32 = BitVec.ofNat 32 n := by
  unfold IntOp.maxsi
  rw [BitVec.slt, toInt_ofNat n hn]
  simp
  rintro rfl
  rfl

/-- The conversion of a natural number to a word. -/
theorem fptosi_nat (n : ℕ) : Ideal.fptosi 32 (((n : ℤ) : ℝ) : EReal) = BitVec.ofNat 32 (min n 2147483647) := by
  have e : Ideal.fptosi 32 (((n : ℤ) : ℝ) : EReal) = BitVec.ofInt 32 (max (-(2 ^ (32 - 1) : ℕ)) (min ((2 ^ (32 - 1) : ℕ) - 1)
      (if (0 : ℝ) ≤ ((n : ℤ) : ℝ) then ⌊((n : ℤ) : ℝ)⌋ else ⌈((n : ℤ) : ℝ)⌉))) := rfl
  rw [e, if_pos (by positivity), Int.floor_intCast]
  have e2 : max (-(2 ^ (32 - 1) : ℕ) : ℤ) (min ((2 ^ (32 - 1) : ℕ) - 1) (n : ℤ)) = ((min n 2147483647 : ℕ) : ℤ) := by
    push_cast; norm_num; exact min_comm _ _
  rw [e2, BitVec.ofInt_natCast]

/-- The word the conversion gives of the coordinate rounded down, held to 49: `low` again. -/
theorem low_word (p : EReal) :
    IntOp.minsi (Ideal.fptosi 32 (Ideal.liftRound Int.floor (max p 0))) 49#32 = BitVec.ofNat 32 (low p) := by
  induction p with
  | bot =>
    have e : max (⊥ : EReal) 0 = ((0 : ℝ) : EReal) := by simp
    have e0 : ⌊(0 : ℝ)⌋ = ((0 : ℕ) : ℤ) := by simp
    rw [e, Ideal.liftRound_coe, e0, fptosi_nat, minsi_ofNat _ _ (by omega) (by omega)]
    simp [low]
  | top =>
    have e : max (⊤ : EReal) 0 = ⊤ := by simp
    have e1 : Ideal.fptosi 32 ⊤ = BitVec.ofNat 32 2147483647 := rfl
    rw [e, Ideal.liftRound_top, e1, minsi_ofNat _ _ (by omega) (by omega)]
    simp [low]
  | coe r =>
    rw [coe_max_zero, Ideal.liftRound_coe, floor_start, fptosi_nat, minsi_ofNat _ _ (by omega) (by omega)]
    have hl : low (r : EReal) = min ⌊r⌋₊ 49 := by simp [low]
    rw [hl, min_assoc]
    norm_num

/-- The word after it, held to 49: `high`. -/
theorem high_word (p : EReal) :
    IntOp.minsi (IntOp.addi (BitVec.ofNat 32 (low p)) 1#32) 49#32 = BitVec.ofNat 32 (high p) := by
  have h := low_le p
  have e : IntOp.addi (BitVec.ofNat 32 (low p)) 1#32 = BitVec.ofNat 32 (low p + 1) := by
    rw [IntOp.addi, BitVec.ofNat_add]
  rw [e, minsi_ofNat _ _ (by omega) (by omega), high]

end Cert.Sample
-- ==== Proof.Place.lean ====
/- Where a box's samples lie along one axis, and that a window of 24 grid lines from the box's edge holds the lines on
   both sides of every sample that counts, so long as the box is at most 22 lines long. -/
module

public import proofs.«01_k».proof.Proof.Sample

@[expose] public section

noncomputable section

namespace Cert.Sample

open Idealize.ShloMosaic

/-- A sample's distance from the box's edge, in bins: two samples to a bin, a quarter and three quarters along it. -/
def step (n : ℕ) : ℝ := (n / 2 : ℕ) + ((n % 2 : ℕ) + 1 / 2) / 2
/-- The coordinate of sample `n` of a box whose edge is at `p` and whose bins are `q` long. -/
def place (p q : EReal) (n : ℕ) : EReal := p + (step n : EReal) * q
/-- The length of a box's bin from the coordinates of its two edges: a seventh, of a box at least one line long. -/
def bin (p e : EReal) : EReal := Ideal.div (max (e - p) ((1 : ℝ) : EReal)) ((7 : ℝ) : EReal)
/-- The first line of the box's window: at the box's edge, but early enough for 24 lines. -/
def start (p : EReal) : ℕ := min (low p) 26

/-- A window starts at line 26 at the latest. -/
theorem start_le (p : EReal) : start p ≤ 26 := by unfold start; omega

/-- A word's number is rounded down to half of it. -/
theorem half_floor (n : ℕ) : ⌊((n : ℤ) : ℝ) * (1 / 2)⌋ = ((n / 2 : ℕ) : ℤ) := by
  rw [Int.floor_eq_iff]
  have h : n = 2 * (n / 2) + n % 2 := by omega
  have h2 : n % 2 < 2 := Nat.mod_lt _ (by norm_num)
  generalize n / 2 = a at *
  generalize n % 2 = b at *
  subst h
  have h3 : (b : ℝ) < 2 := by exact_mod_cast h2
  have h4 : (0 : ℝ) ≤ b := by positivity
  push_cast
  constructor <;> linarith

/-- `place`, as the kernel computes it from the sample's number. -/
theorem place_of_number (p q : EReal) (n : ℕ) (hn : n < 2147483648) :
    p + (Ideal.liftRound Int.floor ((((BitVec.ofNat 32 n).toInt : ℝ) : EReal) * ((1 / 2 : ℝ) : EReal))
      + ((((BitVec.ofNat 32 n).toInt : ℝ) : EReal) - ((2 : ℝ) : EReal)
          * Ideal.liftRound Int.floor ((((BitVec.ofNat 32 n).toInt : ℝ) : EReal) * ((1 / 2 : ℝ) : EReal))
        + ((1 / 2 : ℝ) : EReal)) * ((1 / 2 : ℝ) : EReal)) * q = place p q n := by
  rw [toInt_ofNat n hn, ← EReal.coe_mul, Ideal.liftRound_coe, half_floor, ← EReal.coe_mul, ← EReal.coe_sub, ← EReal.coe_add,
    ← EReal.coe_mul, ← EReal.coe_add, place, step]
  have h : n = 2 * (n / 2) + n % 2 := by omega
  have h2 : ((n : ℤ) : ℝ) = 2 * (n / 2 : ℕ) + (n % 2 : ℕ) := by
    rw [Int.cast_natCast, ← Nat.cast_ofNat, ← Nat.cast_mul, ← Nat.cast_add, ← h]
  rw [h2]
  congr 3
  push_cast
  ring

/-- The bin of a box at most 22 lines long is a real number between a seventh and 22 sevenths. -/
theorem bin_real (p e : EReal) (h : e - p ≤ ((22 : ℝ) : EReal)) :
    ∃ q : ℝ, 1 / 7 ≤ q ∧ q ≤ 22 / 7 ∧ bin p e = (q : EReal) := by
  unfold bin
  generalize e - p = d at *
  have key : ∀ t : ℝ, Ideal.div (t : EReal) ((7 : ℝ) : EReal) = ((t / 7 : ℝ) : EReal) := by
    intro t
    rw [Ideal.div, if_neg (by norm_cast), ← EReal.coe_inv, ← EReal.coe_mul, div_eq_mul_inv]
  induction d with
  | bot => exact ⟨1 / 7, by norm_num, by norm_num, by rw [max_eq_right bot_le, key]⟩
  | top => exact absurd h (by rw [top_le_iff]; exact EReal.coe_ne_top _)
  | coe r =>
    have hr : r ≤ 22 := by exact_mod_cast h
    refine ⟨max r 1 / 7, ?_, ?_, by rw [coe_max, key]⟩
    · have := le_max_right r 1; linarith
    · have : max r 1 ≤ 22 := max_le hr (by norm_num); linarith

/-- The steps of the fourteen samples lie between nothing and seven bins less a quarter. -/
theorem step_bounds (n : ℕ) (hn : n < 14) : 0 ≤ step n ∧ step n ≤ 27 / 4 := by
  unfold step
  have h1 : n / 2 ≤ 6 := by omega
  have h2 : n % 2 ≤ 1 := by omega
  have h3 : ((n / 2 : ℕ) : ℝ) ≤ 6 := by exact_mod_cast h1
  have h4 : ((n % 2 : ℕ) : ℝ) ≤ 1 := by exact_mod_cast h2
  have h5 : (0 : ℝ) ≤ ((n / 2 : ℕ) : ℝ) := by positivity
  have h6 : (0 : ℝ) ≤ ((n % 2 : ℕ) : ℝ) := by positivity
  constructor <;> linarith

/-- The window holds the lines on both sides of a sample that counts. -/
theorem covered (p e : EReal) (h : e - p ≤ ((22 : ℝ) : EReal)) (n : ℕ) (hn : n < 14) (hc : Counts (place p (bin p e) n)) :
    start p ≤ low (place p (bin p e) n) ∧ start p ≤ high (place p (bin p e) n)
      ∧ low (place p (bin p e) n) < start p + 24 ∧ high (place p (bin p e) n) < start p + 24 := by
  obtain ⟨q, hq1, hq2, hq⟩ := bin_real p e h
  obtain ⟨hs0, hs1⟩ := step_bounds n hn
  rw [hq] at hc ⊢
  unfold place at *
  rw [← EReal.coe_mul] at *
  induction p with
  | bot =>
    obtain ⟨hc, -⟩ := hc
    rw [EReal.bot_add, le_bot_iff] at hc
    exact absurd hc (by decide)
  | top =>
    obtain ⟨-, hc⟩ := hc
    rw [EReal.top_add_coe, top_le_iff] at hc
    exact absurd hc (by decide)
  | coe y =>
    rw [← EReal.coe_add]
    have hlow : ∀ r : ℝ, low (r : EReal) = min ⌊r⌋₊ 49 := fun r => by simp [low]
    have hd0 : 0 ≤ step n * q := by positivity
    have hd1 : step n * q ≤ 22 := by nlinarith
    have hab : ⌊y⌋₊ ≤ ⌊y + step n * q⌋₊ := Nat.floor_mono (by linarith)
    have hba : ⌊y + step n * q⌋₊ ≤ ⌊y⌋₊ + 22 := by
      rcases le_total 0 y with hy | hy
      · have e : ⌊y⌋₊ + 22 = ⌊y + (22 : ℕ)⌋₊ := (Nat.floor_add_natCast hy 22).symm
        rw [e]
        exact Nat.floor_mono (by push_cast; linarith)
      · have e : ⌊y + step n * q⌋₊ ≤ ⌊((22 : ℕ) : ℝ)⌋₊ := Nat.floor_mono (by push_cast; linarith)
        rw [Nat.floor_natCast] at e
        omega
    unfold start high
    rw [hlow, hlow]
    omega

end Cert.Sample
-- ==== Proof.Bilinear.lean ====
/- Bilinear interpolation as two weighted sums over grid lines, and as four weighted corners: the same extended real,
   whatever the values at the grid's points are. Then the mean of a bin's four samples, written as a weighted sum over
   all samples. -/
module

public import proofs.«01_k».proof.Proof.Sample

@[expose] public section

noncomputable section

namespace Cert.Sample

open Idealize.ShloMosaic

/-- One where the proposition holds, zero elsewhere. -/
def ind (P : Prop) [Decidable P] : EReal := if P then 1 else 0

/-- The weight of grid line `n` in the coordinate `p`. -/
def weight (n : ℕ) (p : EReal) : EReal :=
  ind (n = low p) * ((1 - part p : ℝ) : EReal) + ind (n = high p) * ((part p : ℝ) : EReal)

/-- A sum over `N` lines from `o` on, in which one line counts, is the term at that line. -/
theorem sum_pick {N : ℕ} (a : ℕ → EReal) (o k : ℕ) (h0 : o ≤ k) (h1 : k < o + N) (w : EReal) :
    ∑ x : Fin N, a (o + x.val) * (ind (o + x.val = k) * w) = a k * w := by
  rw [Finset.sum_eq_single (⟨k - o, by omega⟩ : Fin N)]
  · have e : o + (k - o) = k := by omega
    simp only [e, ind, if_true, one_mul]
  · intro x _ hx
    have e : o + x.val ≠ k := fun h => hx (Fin.ext (by simp only; omega))
    simp only [ind, if_neg e, zero_mul, mul_zero]
  · intro h; exact absurd (Finset.mem_univ _) h

/-- An indicator is not negative. -/
theorem ind_nonneg (P : Prop) [Decidable P] : 0 ≤ ind P := by
  unfold ind; split <;> simp

/-- A weighted sum over the lines of a window that holds both lines of a coordinate. -/
theorem sum_line {N : ℕ} (a : ℕ → EReal) (o : ℕ) (p : EReal) (h0 : o ≤ low p) (h1 : o ≤ high p) (h2 : low p < o + N)
    (h3 : high p < o + N) :
    ∑ x : Fin N, a (o + x.val) * weight (o + x.val) p
      = a (low p) * ((1 - part p : ℝ) : EReal) + a (high p) * ((part p : ℝ) : EReal) := by
  have hl : (0 : EReal) ≤ ((1 - part p : ℝ) : EReal) := EReal.coe_nonneg.mpr (by linarith [part_le_one p])
  have hp : (0 : EReal) ≤ ((part p : ℝ) : EReal) := EReal.coe_nonneg.mpr (part_nonneg p)
  unfold weight
  simp only [EReal.left_distrib_of_nonneg (mul_nonneg (ind_nonneg _) hl) (mul_nonneg (ind_nonneg _) hp)]
  rw [Finset.sum_add_distrib, sum_pick a o _ h0 h2, sum_pick a o _ h1 h3]

/-- The four corners around the point of coordinates `p` (first axis) and `q` (second axis), each with its weight. -/
def corners (a : ℕ → ℕ → EReal) (p q : EReal) : EReal :=
  ((a (low p) (low q) * (((1 - part p : ℝ) : EReal) * ((1 - part q : ℝ) : EReal))
      + a (low p) (high q) * (((1 - part p : ℝ) : EReal) * ((part q : ℝ) : EReal)))
      + a (high p) (low q) * (((part p : ℝ) : EReal) * ((1 - part q : ℝ) : EReal)))
      + a (high p) (high q) * (((part p : ℝ) : EReal) * ((part q : ℝ) : EReal))

/-- A bilinear sample: its four corners if both coordinates count, and zero if not. -/
def sample (a : ℕ → ℕ → EReal) (p q : EReal) : EReal := corners a p q * ind (Counts p ∧ Counts q)

/-- The two weighted sums, over a window of `N` lines of the first axis and all 50 of the second, are the sample. -/
theorem sum_sum_eq_sample {N : ℕ} (a : ℕ → ℕ → EReal) (o : ℕ) (p q : EReal)
    (h : Counts p → o ≤ low p ∧ o ≤ high p ∧ low p < o + N ∧ high p < o + N) :
    ∑ y : Fin N, (∑ x : Fin 50, a (o + y.val) x.val * (weight x.val q * ind (Counts q)))
        * (weight (o + y.val) p * ind (Counts p)) = sample a p q := by
  unfold sample
  by_cases hq : Counts q
  · by_cases hp : Counts p
    · obtain ⟨h0, h1, h2, h3⟩ := h hp
      have e1 : ind (Counts q) = 1 := if_pos hq
      have e2 : ind (Counts p) = 1 := if_pos hp
      have e3 : ind (Counts p ∧ Counts q) = 1 := if_pos ⟨hp, hq⟩
      simp only [e1, e2, e3, mul_one]
      have hx : ∀ n : ℕ, ∑ x : Fin 50, a n x.val * weight x.val q
          = a n (low q) * ((1 - part q : ℝ) : EReal) + a n (high q) * ((part q : ℝ) : EReal) := by
        intro n
        have := sum_line (N := 50) (fun k => a n k) 0 q (Nat.zero_le _) (Nat.zero_le _)
          (by have := low_le q; omega) (by have := high_le q; omega)
        simpa only [zero_add] using this
      simp only [hx]
      rw [sum_line (fun n => a n (low q) * ((1 - part q : ℝ) : EReal) + a n (high q) * ((part q : ℝ) : EReal)) o p h0 h1 h2 h3]
      unfold corners
      rw [EReal.right_distrib_of_nonneg_of_ne_top (EReal.coe_nonneg.mpr (by linarith [part_le_one p])) (EReal.coe_ne_top _),
        EReal.right_distrib_of_nonneg_of_ne_top (EReal.coe_nonneg.mpr (part_nonneg p)) (EReal.coe_ne_top _)]
      simp only [mul_assoc, add_assoc, mul_comm ((1 - part q : ℝ) : EReal), mul_comm ((part q : ℝ) : EReal)]
    · have e2 : ind (Counts p) = 0 := if_neg hp
      have e3 : ind (Counts p ∧ Counts q) = 0 := if_neg fun h => hp h.1
      simp only [e2, e3, mul_zero, Finset.sum_const_zero]
  · have e1 : ind (Counts q) = 0 := if_neg hq
    have e3 : ind (Counts p ∧ Counts q) = 0 := if_neg fun h => hq h.2
    simp only [e1, e3, mul_zero, zero_mul, Finset.sum_const_zero]

/-- A sum over sixteen in which one bin's two terms count. -/
theorem sum_bin (h : ℕ → EReal) (i : ℕ) (hi : i < 8) :
    ∑ n : Fin 16, (if n.val / 2 = i then h n.val else 0) = h (2 * i) + h (2 * i + 1) := by
  interval_cases i <;> simp [Fin.sum_univ_succ]

/-- The mean of the four samples of the bin `i` (first axis) and `j` (second axis). -/
def mean (v : ℕ → ℕ → EReal) (i j : ℕ) : EReal :=
  ((v (2 * i) (2 * j) + v (2 * i) (2 * j + 1)) + (v (2 * i + 1) (2 * j) + v (2 * i + 1) (2 * j + 1))) * ((1 / 4 : ℝ) : EReal)

/-- The weighted sum over all samples, a quarter for a bin's samples and nothing for the others, is the bin's mean. Sample
    `s` is number `s % 16` along the first axis and `s / 16` along the second. -/
theorem sum_eq_mean (v : ℕ → ℕ → EReal) (i j : ℕ) (hi : i < 8) (hj : j < 8) :
    ∑ s : Fin 256, v (s.val % 16) (s.val / 16) * (ind (s.val % 16 / 2 = i ∧ s.val / 16 / 2 = j) * ((1 / 4 : ℝ) : EReal))
      = mean v i j := by
  have e : ∀ f : ℕ → ℕ → EReal, ∑ s : Fin 256, f (s.val % 16) (s.val / 16) = ∑ x : Fin 16, ∑ y : Fin 16, f y.val x.val := by
    intro f
    rw [← Finset.sum_product', ← Equiv.sum_comp (finProdFinEquiv (m := 16) (n := 16))]
    refine Finset.sum_congr (by simp) fun z _ => ?_
    have h1 : (finProdFinEquiv z : Fin (16 * 16)).val = z.2.val + 16 * z.1.val := rfl
    have h2 : (z.2.val + 16 * z.1.val) % 16 = z.2.val := by omega
    have h3 : (z.2.val + 16 * z.1.val) / 16 = z.1.val := by omega
    simp only [h1, h2, h3]
  rw [e (fun y x => v y x * (ind (y / 2 = i ∧ x / 2 = j) * ((1 / 4 : ℝ) : EReal)))]
  have q : ∀ x : Fin 16, ∑ y : Fin 16, v y.val x.val * (ind (y.val / 2 = i ∧ x.val / 2 = j) * ((1 / 4 : ℝ) : EReal))
      = if x.val / 2 = j then (v (2 * i) x.val * ((1 / 4 : ℝ) : EReal) + v (2 * i + 1) x.val * ((1 / 4 : ℝ) : EReal)) else 0 := by
    intro x
    rw [← sum_bin (fun y => v y x.val * ((1 / 4 : ℝ) : EReal)) i hi]
    split
    · next h =>
      refine Finset.sum_congr rfl fun y _ => ?_
      unfold ind
      by_cases hy : y.val / 2 = i <;> simp [hy, h]
    · next h =>
      refine Finset.sum_eq_zero fun y _ => ?_
      unfold ind
      simp [h]
  simp only [q]
  rw [sum_bin (fun x => v (2 * i) x * ((1 / 4 : ℝ) : EReal) + v (2 * i + 1) x * ((1 / 4 : ℝ) : EReal)) j hj]
  have h0 : (0 : EReal) ≤ ((1 / 4 : ℝ) : EReal) := EReal.coe_nonneg.mpr (by norm_num)
  unfold mean
  simp only [EReal.right_distrib_of_nonneg_of_ne_top h0 (EReal.coe_ne_top _)]
  exact add_add_add_comm _ _ _ _

end Cert.Sample
-- ==== Proof.Gather.lean ====
/- The reference's two lookups, read at an entry: the feature map a batch number names, and the grid points that pairs of
   line numbers name. -/
module

public import proofs.«01_k».proof.Proof.Gen.ReferenceIdeal.Run
public import proofs.«01_k».proof.Proof.Place
public import proofs.«01_k».proof.Proof.Bilinear

@[expose] public section

set_option maxRecDepth 16384

noncomputable section

namespace Cert.ReferenceIdeal.Roi

open Cert.ReferenceIdeal Cert.ReferenceIdeal.Gen Cert.Sample
open Idealize.ShloMosaic Idealize.ShloMosaic.TcCoe

variable {α : Type}

/-- The lookup by batch number: the feature map that the number names. -/
theorem gather_map (x : S2x128x50x50.Idx → α) (idx : IVec S100x1 32) (b : Fin 100) (ch : Fin 128) (y z : Fin 50) (n : Fin 2)
    (h : idx (ix2 b (0 : Fin 1)) = BitVec.ofNat 32 n.val) :
    Host.gather gather_S2x128x50x50_S100x1_S100x128x50x50_123_0_n_n_0_1_11285050 x idx (ix4 b ch y z) = x (ix4 n ch y z) := by
  refine congrArg x (funext fun a => Fin.ext ?_)
  have hn := n.isLt
  have hs : (gather_S2x128x50x50_S100x1_S100x128x50x50_123_0_n_n_0_1_11285050).siIdx (ix4 b ch y z) ⟨0, Nat.zero_lt_one⟩
      = ix2 b (0 : Fin 1) := by
    funext k; fin_cases k <;> rfl
  fin_cases a
  · show min (idx ((gather_S2x128x50x50_S100x1_S100x128x50x50_123_0_n_n_0_1_11285050).siIdx (ix4 b ch y z) ⟨0, Nat.zero_lt_one⟩)).toInt.toNat 1 + 0 + 0 = n.val
    rw [hs, h, toInt_ofNat _ (by omega)]
    omega
  · show 0 + 0 + ch.val = ch.val
    omega
  · show 0 + 0 + y.val = y.val
    omega
  · show 0 + 0 + z.val = z.val
    omega

/-- The lookup by pairs of line numbers: the grid point that the pair names, of the same box and channel. -/
theorem gather_point (x : S100x128x50x50.Idx → α) (idx : IVec S100x14x14x2 32) (b : Fin 100) (ch : Fin 128) (i j : Fin 14)
    (n k : ℕ) (hn : n ≤ 49) (hk : k ≤ 49) (h0 : idx (ix4 b i j (0 : Fin 2)) = BitVec.ofNat 32 n)
    (h1 : idx (ix4 b i j (1 : Fin 2)) = BitVec.ofNat 32 k) :
    Host.gather gather_S100x128x50x50_S100x14x14x2_S100x128x14x14_1_23_0_0_23_3_112811 x idx (ix4 b ch i j)
      = x (ix4 b ch (Fin.ofNat 50 n) (Fin.ofNat 50 k)) := by
  refine congrArg x (funext fun a => Fin.ext ?_)
  have hs0 : (gather_S100x128x50x50_S100x14x14x2_S100x128x14x14_1_23_0_0_23_3_112811).siIdx (ix4 b ch i j) ⟨0, Nat.zero_lt_two⟩
      = ix4 b i j (0 : Fin 2) := by
    funext m; fin_cases m <;> rfl
  have hs1 : (gather_S100x128x50x50_S100x14x14x2_S100x128x14x14_1_23_0_0_23_3_112811).siIdx (ix4 b ch i j) ⟨1, Nat.one_lt_two⟩
      = ix4 b i j (1 : Fin 2) := by
    funext m; fin_cases m <;> rfl
  fin_cases a
  · show 0 + b.val + 0 = b.val
    omega
  · show 0 + 0 + ch.val = ch.val
    omega
  · show min (idx ((gather_S100x128x50x50_S100x14x14x2_S100x128x14x14_1_23_0_0_23_3_112811).siIdx (ix4 b ch i j) ⟨0, Nat.zero_lt_two⟩)).toInt.toNat 49 + 0 + 0 = n % 50
    rw [hs0, h0, toInt_ofNat _ (by omega)]
    omega
  · show min (idx ((gather_S100x128x50x50_S100x14x14x2_S100x128x14x14_1_23_0_0_23_3_112811).siIdx (ix4 b ch i j) ⟨1, Nat.one_lt_two⟩)).toInt.toNat 49 + 0 + 0 = k % 50
    rw [hs1, h1, toInt_ofNat _ (by omega)]
    omega

end Cert.ReferenceIdeal.Roi
-- ==== Proof.Weights.lean ====
/- The kernel's two tables of weights over the extended reals, read at an entry: what each grid line weighs in each
   sample. -/
module

public import proofs.«01_k».proof.Proof.Block
public import proofs.«01_k».proof.Proof.Place
public import proofs.«01_k».proof.Proof.Bilinear

@[expose] public section

set_option maxRecDepth 16384

noncomputable section

namespace Cert.KernelIdeal.Roi

open Cert.KernelIdeal Cert.KernelIdeal.Gen Cert.Sample
open Idealize.ShloMosaic Idealize.ShloMosaic.TcCoe

/-- A comparison's bit as a number. -/
theorem sitofp_bit (P : Prop) [Decidable P] :
    (FloatOps.sitofp .f32 (BitVec.setWidth 32 (BitVec.ofBool (decide P))) : Ideal .f32) = ind P := by
  show ((((BitVec.setWidth 32 (BitVec.ofBool (decide P))).toInt : ℤ) : ℝ) : EReal) = ind P
  unfold ind
  by_cases h : P <;> simp [h]

/-- A number below 2^31 converted from its word. -/
theorem sitofp_number (n : ℕ) (h : n < 2147483648) :
    (FloatOps.sitofp .f32 (BitVec.ofNat 32 n) : Ideal .f32) = ((n : ℝ) : EReal) := by
  show ((((BitVec.ofNat 32 n).toInt : ℤ) : ℝ) : EReal) = _
  rw [toInt_ofNat n h, Int.cast_natCast]

/-- Two natural numbers are equal as extended reals when they are equal. -/
theorem coe_inj (a b : ℕ) : (((a : ℝ) : EReal) = ((b : ℝ) : EReal)) ↔ a = b := by
  rw [EReal.coe_eq_coe_iff, Nat.cast_inj]

/-- The coordinate of a sample along the columns, in every row of the table. -/
theorem coordX (p q : EReal) (x : Fin 50) (s : Fin 16) :
    k0_pay15 (F := Ideal) p q k0_pay13 k0_pay14 (ix2 x s) = place p q s.val := by
  pointwise [k0_pay15, k0_pay13, k0_pay14]
  rw [ofBits_half, ofBits_2]
  exact place_of_number p q s.val (by have := s.isLt; omega)

/-- The coordinate of a sample along the rows. -/
theorem coordY (p q : EReal) (y : Fin 24) (s : Fin 16) :
    k0_pay21 (F := Ideal) p q (ix2 y s) = place p q s.val := by
  pointwise [k0_pay21, k0_pay20]
  rw [ofBits_half, ofBits_2]
  exact place_of_number p q s.val (by have := s.isLt; omega)

/-- One weight as the kernel computes it from a grid line and a coordinate. -/
theorem weight_eq (n : ℕ) (p : EReal) :
    ind (((n : ℝ) : EReal) = ((low p : ℝ) : EReal))
        * (1 - ((if ((49 : ℝ) : EReal) ≤ ((low p : ℝ) : EReal) then ((low p : ℝ) : EReal) else max p 0) - ((low p : ℝ) : EReal)))
      + ind (((n : ℝ) : EReal) = ((high p : ℝ) : EReal))
        * ((if ((49 : ℝ) : EReal) ≤ ((low p : ℝ) : EReal) then ((low p : ℝ) : EReal) else max p 0) - ((low p : ℝ) : EReal))
      = weight n p := by
  have e : (((49 : ℝ) : EReal) ≤ ((low p : ℝ) : EReal)) ↔ 49 ≤ low p := by
    rw [EReal.coe_le_coe_iff]; exact_mod_cast Iff.rfl
  simp only [e, part_eq, coe_inj]
  rw [← EReal.coe_one, ← EReal.coe_sub]
  rfl

/-- The bit of a coordinate that counts, as the programs compute it. -/
theorem counts_bit (p : EReal) :
    IntOp.andi (BitVec.ofBool (decide (((-1 : ℝ) : EReal) ≤ p))) (BitVec.ofBool (decide (p ≤ ((50 : ℝ) : EReal))))
      = BitVec.ofBool (decide (Counts p)) := by
  have e : Counts p ↔ ((-1 : ℝ) : EReal) ≤ p ∧ p ≤ ((50 : ℝ) : EReal) := Iff.rfl
  unfold IntOp.andi
  by_cases h0 : ((-1 : ℝ) : EReal) ≤ p <;> by_cases h1 : p ≤ ((50 : ℝ) : EReal) <;> simp only [e, h0, h1] <;> decide

/-- A sample's number below 14 does not change the bit. -/
theorem counts_bit_of_lt (P : Prop) [Decidable P] (n : ℕ) (h : n < 14) :
    IntOp.andi (BitVec.ofBool (decide P)) (BitVec.ofBool (decide (((n : ℝ) : EReal) < ((14 : ℝ) : EReal))))
      = BitVec.ofBool (decide P) := by
  have e : ((n : ℝ) : EReal) < ((14 : ℝ) : EReal) := by
    rw [EReal.coe_lt_coe_iff]; exact_mod_cast h
  unfold IntOp.andi
  by_cases h0 : P <;> simp only [e, h0] <;> decide

/-- The columns' weights: that of the column in the sample's coordinate, where the coordinate counts. -/
theorem weightsX_at (p q : EReal) (x : Fin 50) (s : Fin 16) (hs : s.val < 14) :
    weightsX (F := Ideal) p q (ix2 x s) = weight x.val (place p q s.val) * ind (Counts (place p q s.val)) := by
  unfold weightsX
  pointwise [k0_pay18, k0_pay16, k0_pay17]
  simp only [coordX]
  pointwise [k0_pay12, k0_pay13]
  generalize place p q s.val = c
  rw [ofBits_49, ofBits_50, ofBits_neg_one, ofBits_14, low_eq, ← EReal.coe_one, high_eq, EReal.coe_one,
    sitofp_number x.val (by have := x.isLt; omega), sitofp_number s.val (by omega), counts_bit, counts_bit_of_lt _ _ hs,
    sitofp_bit, sitofp_bit, sitofp_bit, weight_eq]

/-- The rows' weights: that of the window's row in the sample's coordinate, where the coordinate counts. -/
theorem weightsY_at (p q : EReal) (o : ℕ) (ho : o ≤ 26) (y : Fin 24) (s : Fin 16) (hs : s.val < 14) :
    ((FloatOps.sitofp FTy.f32 (BitVec.setWidth 32 (k0_pay28 (F := Ideal) p q (BitVec.ofNat 32 o) (ix2 y s))) : Ideal .f32) * k0_pay27 (F := Ideal) p q (ix2 y s)
        + (FloatOps.sitofp FTy.f32 (BitVec.setWidth 32 (BitVec.ofBool (decide (k0_pay19 (F := Ideal) (BitVec.ofNat 32 o) (ix2 y s) = k0_pay25 (F := Ideal) p q (ix2 y s))))) : Ideal .f32)
          * k0_pay26 (F := Ideal) p q (ix2 y s))
      * (FloatOps.sitofp FTy.f32 (BitVec.setWidth 32 (k0_pay22 (F := Ideal) p q (ix2 y s))) : Ideal .f32)
      = weight (o + y.val) (place p q s.val) * ind (Counts (place p q s.val)) := by
  have hn : k0_pay19 (F := Ideal) (BitVec.ofNat 32 o) (ix2 y s) = (((o + y.val : ℕ) : ℝ) : EReal) := by
    pointwise [k0_pay19]
    rw [sitofp_number y.val (by have := y.isLt; omega), toInt_ofNat o (by omega), ← EReal.coe_add]
    push_cast
    rfl
  pointwise [k0_pay28, k0_pay27, k0_pay26, k0_pay25, k0_pay24, k0_pay23, k0_pay22]
  simp only [coordY, hn]
  pointwise [k0_pay20]
  generalize place p q s.val = c
  rw [ofBits_49, ofBits_50, ofBits_neg_one, ofBits_14, low_eq, ← EReal.coe_one, high_eq, EReal.coe_one,
    sitofp_number s.val (by omega), counts_bit, counts_bit_of_lt _ _ hs, sitofp_bit, sitofp_bit, sitofp_bit, weight_eq]

end Cert.KernelIdeal.Roi
-- ==== Proof.Pool.lean ====
/- The kernel's pooling over the extended reals, read at an entry: a bin's entry is the mean of its four samples. -/
module

public import proofs.«01_k».proof.Proof.Weights

@[expose] public section

set_option maxRecDepth 16384

noncomputable section

namespace Cert.KernelIdeal.Roi

open Cert.KernelIdeal Cert.KernelIdeal.Gen Cert.Sample
open Idealize.ShloMosaic Idealize.ShloMosaic.TcCoe

/-- Half of a sample's number along the rows, as the kernel computes it from the pooling matrix's row. -/
theorem half_inner (s : Fin 256) (r : Fin 56) :
    k0_pay33 16#32 k0_pay30 k0_pay31 k0_pay32 (ix2 s r) = BitVec.ofNat 32 (s.val % 16 / 2) := by
  pointwise [k0_pay33, k0_pay30, k0_pay31, k0_pay32]
  revert s
  decide +kernel

/-- A sample's number along the columns, as the kernel computes it from the pooling matrix's row. -/
theorem outer (s : Fin 256) (r : Fin 56) : k0_pay37 rowNo (ix2 s r) = BitVec.ofNat 32 (s.val / 16) := by
  pointwise [k0_pay37, rowNo]
  revert s
  decide +kernel

/-- Half of it. -/
theorem half_outer (s : Fin 256) (r : Fin 56) : k0_pay38 rowNo (ix2 s r) = BitVec.ofNat 32 (s.val / 16 / 2) := by
  pointwise [k0_pay38]
  rw [outer]
  revert s
  decide +kernel

/-- Its sign. -/
theorem sign_outer (s : Fin 256) (r : Fin 56) : k0_pay39 rowNo (ix2 s r) = BitVec.ofNat 32 (min (s.val / 16) 1) := by
  pointwise [k0_pay39]
  rw [outer]
  revert s
  decide +kernel

/-- The pooling matrix's column. -/
theorem colNo_at (s : Fin 256) (r : Fin 56) : colNo (ix2 s r) = BitVec.ofNat 32 r.val := by
  pointwise [colNo]

/-- Where the pooling matrix has a sample in the bin's row. -/
theorem inRow_at (s : Fin 256) (r : Fin 56) :
    inRow (ix2 s r) = BitVec.ofBool (decide (s.val % 16 / 2 = r.val / 7)) := by
  unfold inRow
  pointwise [k0_pay36, k0_pay34, k0_pay35]
  rw [half_inner, colNo_at]
  have h : s.val % 16 / 2 < 8 := by omega
  generalize s.val % 16 / 2 = a at h
  obtain ⟨a, rfl⟩ : ∃ a' : Fin 8, a'.val = a := ⟨⟨a, h⟩, rfl⟩
  revert a r
  decide +kernel

/-- The pooled entry of bin `r` is the mean of the bin's samples, given what the samples at the first fourteen numbers of
    each axis are: `v` takes the number along the rows first. -/
theorem pooled_at (u : FVec Ideal S128x16x16 .f32) (ch : Fin 128) (r : Fin 49) (v : ℕ → ℕ → EReal)
    (hv : ∀ s t : Fin 16, s.val < 14 → t.val < 14 → u (ix3 ch s t) = v t.val s.val) :
    pooled (F := Ideal) u (ix2 ch r) = mean v (r.val / 7) (r.val % 7) := by
  have hr := r.isLt
  let w : ℕ → ℕ → EReal := fun y x => if h : y < 16 ∧ x < 16 then u (ix3 ch ⟨x, h.2⟩ ⟨y, h.1⟩) else 0
  have hw : ∀ y x : ℕ, y < 14 → x < 14 → w y x = v y x := by
    intro y x hy hx
    have h : y < 16 ∧ x < 16 := by omega
    simp only [w, dif_pos h]
    exact hv ⟨x, h.2⟩ ⟨y, h.1⟩ hx hy
  have hm : mean w (r.val / 7) (r.val % 7) = mean v (r.val / 7) (r.val % 7) := by
    unfold mean
    rw [hw _ _ (by omega) (by omega), hw _ _ (by omega) (by omega), hw _ _ (by omega) (by omega), hw _ _ (by omega) (by omega)]
  rw [← hm, ← sum_eq_mean w _ _ (by omega) (by omega)]
  pointwise [pooled, k0_pay40]
  simp only [inRow_at, outer, half_outer, sign_outer, colNo_at]
  refine Finset.sum_congr rfl fun x hmem => ?_
  have hx := x.isLt
  have e : w (x.val % 16) (x.val / 16) = u (ix3 ch ⟨x.val / 16, by omega⟩ ⟨x.val % 16, by omega⟩) := by
    simp only [w]
    rw [dif_pos (by omega)]
  rw [e, ofBits_quarter, ← sitofp_bit]
  refine congrArg (_ * ·) (congrArg (· * _) (congrArg _ (congrArg _ ?_)))
  have e2 : ∀ P Q : Prop, ∀ [Decidable P] [Decidable Q], BitVec.ofBool (decide (P ∧ Q))
      = IntOp.andi (BitVec.ofBool (decide P)) (BitVec.ofBool (decide Q)) := by
    intro P Q _ _
    unfold IntOp.andi
    by_cases h0 : P <;> by_cases h1 : Q <;> simp only [h0, h1] <;> decide
  rw [e2]
  refine congrArg (IntOp.andi _) ?_
  have h : x.val / 16 < 16 := by omega
  generalize x.val / 16 = a at h
  obtain ⟨a, rfl⟩ : ∃ a' : Fin 16, a'.val = a := ⟨⟨a, h⟩, rfl⟩
  clear e hx hm hw hr h hv hmem x w
  revert a r
  decide +kernel

end Cert.KernelIdeal.Roi
-- ==== Proof.BlockValue.lean ====
/- The kernel's block of a box over the extended reals, read at an entry: the mean of four bilinear samples of the masked
   features. -/
module

public import proofs.«01_k».proof.Proof.Pool
public import proofs.«01_k».proof.Proof.Batch

@[expose] public section

set_option maxRecDepth 16384

noncomputable section

namespace Cert.KernelIdeal.Roi

open Cert.KernelIdeal Cert.KernelIdeal.Gen Cert.Sample
open Idealize.ShloMosaic Idealize.ShloMosaic.TcCoe

/-- A box's edge, scaled to the feature map: entry `k` of its row of the boxes, a quarter of it. -/
def edge (x0 : Vec Ideal S100x5 .f32) (b : Fin 100) (k : Fin 5) : EReal := x0 (ix2 b k) * ((1 / 4 : ℝ) : EReal)

/-- The masked features of a box on one channel, at a row and a column of the grid. -/
def masked (x1 : Vec Ideal S2x128x50x50 .f32) (M : S100x128x50x50.Idx → EReal) (v : Fin 2) (b : Fin 100) (ch : Fin 128)
    (y x : ℕ) : EReal :=
  x1 (ix4 v ch (Fin.ofNat 50 y) (Fin.ofNat 50 x)) * M (ix4 b ch (Fin.ofNat 50 y) (Fin.ofNat 50 x))

/-- What the entry of a box's block is: the mean of the samples of bin `r`. -/
def pooledValue (x0 : Vec Ideal S100x5 .f32) (x1 : Vec Ideal S2x128x50x50 .f32) (M : S100x128x50x50.Idx → EReal) (v : Fin 2)
    (b : Fin 100) (ch : Fin 128) (i j : ℕ) : EReal :=
  mean (fun n k => sample (masked x1 M v b ch) (place (edge x0 b 2) (bin (edge x0 b 2) (edge x0 b 4)) n)
    (place (edge x0 b 1) (bin (edge x0 b 1) (edge x0 b 3)) k)) i j

/-- Rounding down and then holding to 49 is holding first. -/
theorem low_eq' (p : EReal) : Ideal.liftRound Int.floor (min ((49 : ℝ) : EReal) (max 0 p)) = ((low p : ℝ) : EReal) := by
  rw [← low_eq, max_comm]
  induction p with
  | bot =>
    have e : max (⊥ : EReal) 0 = ((0 : ℝ) : EReal) := by simp
    rw [e, coe_min, Ideal.liftRound_coe, Ideal.liftRound_coe, coe_min]; simp
  | top =>
    have e : max (⊤ : EReal) 0 = ⊤ := by simp
    rw [e, min_eq_left le_top, Ideal.liftRound_top, min_eq_right le_top, Ideal.liftRound_coe]; simp
  | coe r =>
    rw [coe_max_zero, coe_min, Ideal.liftRound_coe, Ideal.liftRound_coe, coe_min]
    have h : Monotone (fun t : ℝ => ((⌊t⌋ : ℤ) : ℝ)) := fun a b hab => Int.cast_le.mpr (Int.floor_mono hab)
    have := h.map_min (a := (49 : ℝ)) (b := max r 0)
    rw [this, min_comm]
    simp

/-- The word of a box's window is the grid line at its upper edge. -/
theorem rowWord_eq (x0 : Vec Ideal S100x5 .f32) (b : Fin 100) : rowWord (F := Ideal) x0 b = BitVec.ofNat 32 (low (edge x0 b 2)) := by
  have h := low_le (edge x0 b 2)
  unfold rowWord
  rw [boxAt_eq]
  pointwise [k0_pay6]
  rw [ofBits_49, ofBits_quarter]
  show Ideal.fptosi 32 (Ideal.liftRound Int.floor (min ((49 : ℝ) : EReal) (max 0 (edge x0 b 2)))) = _
  rw [low_eq', ← Int.cast_natCast, fptosi_nat, min_eq_left (by omega)]

/-- The clamped word is the window's first line. -/
theorem clamped_eq (p : EReal) :
    Scalar.minsi (Scalar.maxsi (BitVec.ofNat 32 (low p)) 0#32) 26#32 = BitVec.ofNat 32 (start p) := by
  have h := low_le p
  show IntOp.minsi (IntOp.maxsi _ _) _ = _
  rw [maxsi_ofNat _ (by omega), minsi_ofNat _ _ (by omega) (by omega)]
  rfl

/-- The window's first line as a number. -/
theorem top_eq (p : EReal) : top (BitVec.ofNat 32 (low p)) = start p := by
  have h := start_le p
  unfold top
  rw [clamped_eq, BitVec.toNat_ofNat, Nat.mod_eq_of_lt (by omega)]

/-- The window of the features, read at an entry. -/
theorem featWindow_at (x1 : Vec Ideal S2x128x50x50 .f32) (v : BitVec 32) (hv : v.toNat < 2) (p : EReal) (ch : Fin 128)
    (y : Fin 24) (x : Fin 50) :
    featWindow (F := Ideal) x1 v hv (BitVec.ofNat 32 (low p)) (ix4 (0 : Fin 1) ch y x)
      = x1 (ix4 (⟨v.toNat, hv⟩ : Fin 2) ch (Fin.ofNat 50 (start p + y.val)) (Fin.ofNat 50 x.val)) := by
  have h := start_le p
  have hy := y.isLt
  have hx := x.isLt
  have ht := top_eq p
  unfold top at ht
  unfold featWindow
  refine congrArg x1 (funext fun a => Fin.ext ?_)
  fin_cases a
  · show v.toNat + 1 * 0 = v.toNat
    omega
  · show 0 + 1 * ch.val = ch.val
    omega
  · show (Scalar.minsi (Scalar.maxsi (BitVec.ofNat 32 (low p)) 0#32) 26#32).toNat + 1 * y.val = (start p + y.val) % 50
    omega
  · show 0 + 1 * x.val = x.val % 50
    omega

/-- The window of the masks, read at an entry. -/
theorem maskWindow_at (M : S100x128x50x50.Idx → EReal) (b : Fin 100) (p : EReal) (ch : Fin 128) (y : Fin 24) (x : Fin 50) :
    maskWindow (F := Ideal) M b (BitVec.ofNat 32 (low p)) (ix4 (0 : Fin 1) ch y x)
      = M (ix4 b ch (Fin.ofNat 50 (start p + y.val)) (Fin.ofNat 50 x.val)) := by
  have h := start_le p
  have hy := y.isLt
  have hx := x.isLt
  have ht := top_eq p
  unfold maskWindow
  refine congrArg M (funext fun a => Fin.ext ?_)
  fin_cases a
  · show b.val + 1 * 0 = b.val
    omega
  · show 0 + 1 * ch.val = ch.val
    omega
  · show top (BitVec.ofNat 32 (low p)) + 1 * y.val = (start p + y.val) % 50
    omega
  · show 0 + 1 * x.val = x.val % 50
    omega

/-- A box's feature map: its batch number as a word. -/
def batchOf (x0 : Vec Ideal S100x5 .f32) (hx : BatchOk x0) (b : Fin 100) : Fin 2 := ⟨_, hx b⟩

/-- The kernel's samples, read at an entry: two weighted sums over the windows. -/
theorem samples_at (p1 p2 q1 q2 : EReal) (o : ℕ) (ho : o ≤ 26) (f m : Vec Ideal S1x128x24x50 .f32) (ch : Fin 128)
    (s t : Fin 16) (hs : s.val < 14) (ht : t.val < 14) :
    samples (F := Ideal) p1 p2 q1 q2 (BitVec.ofNat 32 o) f m (ix3 ch s t)
      = ∑ y : Fin 24, (∑ x : Fin 50, f (ix4 (0 : Fin 1) ch y x) * m (ix4 (0 : Fin 1) ch y x)
          * (weight x.val (place p1 q1 s.val) * ind (Counts (place p1 q1 s.val))))
          * (weight (o + y.val) (place p2 q2 t.val) * ind (Counts (place p2 q2 t.val))) := by
  unfold samples
  pointwise [k0_pay29]
  simp only [weightsX_at _ _ _ _ hs, weightsY_at _ _ o ho _ _ ht]

/-- The block of a box is the pooled samples of its four edges. -/
theorem blockOf_eq (a1 a2 a3 a4 : EReal) (p : EReal) (f m : Vec Ideal S1x128x24x50 .f32) (ch : Fin 128) (r : Fin 49) :
    blockOf (F := Ideal) a1 a2 a3 a4 (BitVec.ofNat 32 (low p)) f m (ix3 (0 : Fin 1) ch r)
      = pooled (F := Ideal) (samples (F := Ideal) (a1 * ((1 / 4 : ℝ) : EReal)) (a2 * ((1 / 4 : ℝ) : EReal))
          (bin (a1 * ((1 / 4 : ℝ) : EReal)) (a3 * ((1 / 4 : ℝ) : EReal)))
          (bin (a2 * ((1 / 4 : ℝ) : EReal)) (a4 * ((1 / 4 : ℝ) : EReal))) (BitVec.ofNat 32 (start p)) f m) (ix2 ch r) := by
  have e7 : k0_pay7 (F := Ideal) a1 = a1 * ((1 / 4 : ℝ) : EReal) := by
    pointwise [k0_pay7]; rw [ofBits_quarter]
  have e8 : k0_pay8 (F := Ideal) a2 = a2 * ((1 / 4 : ℝ) : EReal) := by
    pointwise [k0_pay8]; rw [ofBits_quarter]
  have e9 : k0_pay9 (F := Ideal) a1 a3 = bin (a1 * ((1 / 4 : ℝ) : EReal)) (a3 * ((1 / 4 : ℝ) : EReal)) := by
    pointwise [k0_pay9]; rw [e7, ofBits_quarter, ofBits_7]; rfl
  have e10 : k0_pay10 (F := Ideal) a2 a4 = bin (a2 * ((1 / 4 : ℝ) : EReal)) (a4 * ((1 / 4 : ℝ) : EReal)) := by
    pointwise [k0_pay10]; rw [e8, ofBits_quarter, ofBits_7]; rfl
  unfold blockOf
  rw [e7, e8, e9, e10, clamped_eq]
  generalize pooled (F := Ideal) _ = u
  pointwise [k0_pay1]

/-- The block's entry for bin `r` is the mean of the bin's four samples, given that the box is at most 22 lines high. -/
theorem block_at (x0 : Vec Ideal S100x5 .f32) (hx : BatchOk x0) (x1 : Vec Ideal S2x128x50x50 .f32)
    (M : S100x128x50x50.Idx → EReal) (b : Fin 100) (ch : Fin 128) (r : Fin 49)
    (h : edge x0 b 4 - edge x0 b 2 ≤ ((22 : ℝ) : EReal)) :
    block (F := Ideal) x0 hx x1 M b (ix3 (0 : Fin 1) ch r)
      = pooledValue x0 x1 M (batchOf x0 hx b) b ch (r.val / 7) (r.val % 7) := by
  unfold block
  rw [rowWord_eq, boxAt_eq, boxAt_eq, boxAt_eq, boxAt_eq, blockOf_eq]
  unfold pooledValue
  refine pooled_at _ ch r _ fun s t hs ht => ?_
  rw [samples_at _ _ _ _ _ (start_le _) _ _ _ _ _ hs ht]
  simp only [featWindow_at, maskWindow_at]
  exact sum_sum_eq_sample (masked x1 M (batchOf x0 hx b) b ch) _ _ _ (covered _ _ h _ ht)

end Cert.KernelIdeal.Roi
-- ==== Proof.Coordinates.lean ====
/- The reference's coordinates over the extended reals: where the samples lie, the lines around them and how far past the
   lower line they are. -/
module

public import proofs.«01_k».proof.Proof.Gather
public import proofs.«01_k».proof.Proof.BlockValue

@[expose] public section

set_option maxRecDepth 16384

noncomputable section

namespace Cert.ReferenceIdeal.Roi

open Cert.ReferenceIdeal Cert.ReferenceIdeal.Gen Cert.ReferenceIdeal.Value Cert.Sample
open Cert.KernelIdeal.Roi (edge masked pooledValue sitofp_number counts_bit)
open Idealize.ShloMosaic Idealize.ShloMosaic.TcCoe

/-- The buffers of a device that runs the reference. -/
abbrev Mem := Valuation τ sig (Elt Ideal)

/-- The boxes that the reference reads. -/
abbrev boxesIn (V : Mem) : Vec Ideal S100x5 .f32 := V (Proc.devRef .tc main_arg1)
/-- The features that the reference reads. -/
abbrev featsIn (V : Mem) : Vec Ideal S2x128x50x50 .f32 := V (Proc.devRef .tc main_arg0)
/-- The masks that the reference reads. -/
abbrev masksIn (V : Mem) : Vec Ideal S100x128x50x50 .f32 := V (Proc.devRef .tc main_arg2)

/-- The coordinate of sample `n` of a box along the rows. -/
def rowAt (V : Mem) (b : Fin 100) (n : ℕ) : EReal :=
  place (edge (boxesIn V) b 2) (bin (edge (boxesIn V) b 2) (edge (boxesIn V) b 4)) n
/-- The coordinate of sample `n` of a box along the columns. -/
def colAt (V : Mem) (b : Fin 100) (n : ℕ) : EReal :=
  place (edge (boxesIn V) b 1) (bin (edge (boxesIn V) b 1) (edge (boxesIn V) b 3)) n

/-- A scaled column of the boxes: the upper edge along the rows. -/
theorem v13_at (V : Mem) (b : Fin 100) : res_main_v13 V (ix1 b) = edge (boxesIn V) b 2 := by
  pointwise [res_main_v13, res_main_v5]
  rw [ofBits_quarter]
  rfl

/-- The left edge along the columns. -/
theorem v9_at (V : Mem) (b : Fin 100) : res_main_v9 V (ix1 b) = edge (boxesIn V) b 1 := by
  pointwise [res_main_v9, res_main_v5]
  rw [ofBits_quarter]
  rfl

/-- A bin's two samples lie a quarter and three quarters along it. -/
theorem v38_at (V : Mem) (s : Fin 2) : res_main_v38 V (ix1 s) = (((s.val + 1 / 2) / 2 : ℝ) : EReal) := by
  pointwise [res_main_v38]
  rw [ofBits_half, ofBits_2]
  rw [sitofp_number _ (by have := s.isLt; omega), ← EReal.coe_add, Ideal.div, if_neg (by norm_cast), ← EReal.coe_inv,
    ← EReal.coe_mul, ← div_eq_mul_inv]

/-- The step of a sample: its bin's number and its place along the bin. -/
theorem step_eq (n : ℕ) (h : n < 14) :
    (FloatOps.sitofp .f32 (BitVec.ofNat 32 (n / 2)) : Ideal .f32) + (((((n % 2 : ℕ) : ℝ) + 1 / 2) / 2 : ℝ) : EReal)
      = (step n : EReal) := by
  rw [sitofp_number _ (by omega)]
  exact (EReal.coe_add _ _).symm

/-- The coordinates along the rows. -/
theorem v63_at (V : Mem) (b : Fin 100) (n : Fin 14) : res_main_v63 V (ix2 b n) = rowAt V b n.val := by
  pointwise [res_main_v63, res_main_v5]
  simp only [v13_at, v38_at]
  rw [ofBits_quarter, ofBits_7, step_eq _ n.isLt]
  rfl

/-- The coordinates along the columns. -/
theorem v64_at (V : Mem) (b : Fin 100) (n : Fin 14) : res_main_v64 V (ix2 b n) = colAt V b n.val := by
  pointwise [res_main_v64, res_main_v5]
  simp only [v9_at, v38_at]
  rw [ofBits_quarter, ofBits_7, step_eq _ n.isLt]
  rfl

/-- The lower line of a row coordinate, as a word. -/
theorem v82_at (V : Mem) (b : Fin 100) (n : Fin 14) : res_main_v82 V (ix2 b n) = BitVec.ofNat 32 (low (rowAt V b n.val)) := by
  pointwise [res_main_v82, res_main_v76]
  simp only [v63_at]
  exact low_word _

/-- The lower line of a column coordinate, as a word. -/
theorem v86_at (V : Mem) (b : Fin 100) (n : Fin 14) : res_main_v86 V (ix2 b n) = BitVec.ofNat 32 (low (colAt V b n.val)) := by
  pointwise [res_main_v86, res_main_v78]
  simp only [v64_at]
  exact low_word _

/-- The upper line of a row coordinate, as a word. -/
theorem v90_at (V : Mem) (b : Fin 100) (n : Fin 14) : res_main_v90 V (ix2 b n) = BitVec.ofNat 32 (high (rowAt V b n.val)) := by
  pointwise [res_main_v90]
  simp only [v82_at]
  exact high_word _

/-- The upper line of a column coordinate, as a word. -/
theorem v94_at (V : Mem) (b : Fin 100) (n : Fin 14) : res_main_v94 V (ix2 b n) = BitVec.ofNat 32 (high (colAt V b n.val)) := by
  pointwise [res_main_v94]
  simp only [v86_at]
  exact high_word _

/-- A line's word is at least 49 exactly when the line is. -/
theorem last_line (n : ℕ) (h : n ≤ 49) (x y : EReal) :
    Scalar.select (IntOp.cmpi .sge (BitVec.ofNat 32 n) 49#32) x y = if 49 ≤ n then x else y := by
  have e : ∀ k : Fin 50, IntOp.cmpi .sge (BitVec.ofNat 32 k.val) 49#32 = BitVec.ofBool (decide (49 ≤ k.val)) := by
    decide +kernel
  rw [e ⟨n, by omega⟩]
  by_cases h : 49 ≤ n <;> simp [h, Scalar.select]

/-- A line's word is not negative, so it stays as it is. -/
theorem line_kept (n : ℕ) (h : n ≤ 49) (x : BitVec 32) :
    Scalar.select (IntOp.cmpi .slt (BitVec.ofNat 32 n) 0#32) x (BitVec.ofNat 32 n) = BitVec.ofNat 32 n := by
  have e : ∀ k : Fin 50, IntOp.cmpi .slt (BitVec.ofNat 32 k.val) 0#32 = 0#1 := by
    decide +kernel
  rw [e ⟨n, by omega⟩]
  rfl

/-- How far a row coordinate lies past its lower line. -/
theorem v104_at (V : Mem) (b : Fin 100) (n : Fin 14) : res_main_v104 V (ix2 b n) = ((part (rowAt V b n.val) : ℝ) : EReal) := by
  have h := low_le (rowAt V b n.val)
  rw [← part_eq]
  pointwise [res_main_v104, res_main_v76]
  simp only [v82_at, v63_at]
  rw [last_line _ h, sitofp_number _ (by omega)]

/-- How far a column coordinate lies past its lower line. -/
theorem v106_at (V : Mem) (b : Fin 100) (n : Fin 14) : res_main_v106 V (ix2 b n) = ((part (colAt V b n.val) : ℝ) : EReal) := by
  have h := low_le (colAt V b n.val)
  rw [← part_eq]
  pointwise [res_main_v106, res_main_v78]
  simp only [v86_at, v64_at]
  rw [last_line _ h, sitofp_number _ (by omega)]

/-- How far a row coordinate lies before the line after its lower one. -/
theorem v108_at (V : Mem) (b : Fin 100) (n : Fin 14) : res_main_v108 V (ix2 b n) = ((1 - part (rowAt V b n.val) : ℝ) : EReal) := by
  pointwise [res_main_v108]
  rw [v104_at, EReal.coe_sub]
  rfl

/-- How far a column coordinate lies before the line after its lower one. -/
theorem v110_at (V : Mem) (b : Fin 100) (n : Fin 14) : res_main_v110 V (ix2 b n) = ((1 - part (colAt V b n.val) : ℝ) : EReal) := by
  pointwise [res_main_v110]
  rw [v106_at, EReal.coe_sub]
  rfl

end Cert.ReferenceIdeal.Roi
-- ==== Proof.Lookup.lean ====
/- The reference's masked features and its lookups of the four corners around a sample. -/
module

public import proofs.«01_k».proof.Proof.Coordinates

@[expose] public section

set_option maxRecDepth 16384

noncomputable section

namespace Cert.ReferenceIdeal.Roi

open Cert.ReferenceIdeal Cert.ReferenceIdeal.Gen Cert.ReferenceIdeal.Value Cert.Sample
open Cert.KernelIdeal.Roi (edge masked pooledValue sitofp_number counts_bit BatchOk boxAt_eq batchOf)
open Idealize.ShloMosaic Idealize.ShloMosaic.TcCoe

/-- The batch number of a box, as a word. -/
theorem v2_at (V : Mem) (hx : BatchOk (F := Ideal) (boxesIn V)) (b : Fin 100) :
    res_main_v2 V (ix1 b) = BitVec.ofNat 32 (batchOf (boxesIn V) hx b).val := by
  have e : res_main_v2 V (ix1 b) = (Scalar.fptosi (F := Ideal) (φ := .f32) 32 (boxesIn V (Cert.KernelIdeal.Roi.boxAt b 0)) : BitVec 32) := by
    rw [boxAt_eq]
    pointwise [res_main_v2]
    rfl
  rw [e]
  exact ((BitVec.ofNat_toNat 32 _).trans (BitVec.setWidth_eq _)).symm

/-- The batch number is not negative, so the lookup's index is the number itself. -/
theorem index_at (V : Mem) (hx : BatchOk (F := Ideal) (boxesIn V)) (b : Fin 100) :
    res_main_call0_v5 V (ix2 b (0 : Fin 1)) = BitVec.ofNat 32 (batchOf (boxesIn V) hx b).val := by
  have h := (batchOf (boxesIn V) hx b).isLt
  pointwise [res_main_call0_v5]
  rw [v2_at V hx, line_kept _ (by omega)]

/-- A conjunction of bits that are all set is set. -/
theorem all_set {ι : Type} (f : ι → BitVec 1) (s : Finset ι) (h : ∀ x, f x = 1#1) : Finset.fold IntOp.andi (1#1) f s = 1#1 := by
  classical
  induction s using Finset.induction_on with
  | empty => rfl
  | insert a s ha ih => rw [Finset.fold_insert ha, ih, h]; rfl

/-- Every index lies between the two feature maps' numbers. -/
theorem in_range (V : Mem) (hx : BatchOk (F := Ideal) (boxesIn V)) (x : S100x1.Idx) :
    IntOp.andi (IntOp.cmpi .sge (res_main_call0_v5 V x) 0#32) (IntOp.cmpi .sle (res_main_call0_v5 V x) 1#32) = 1#1 := by
  obtain ⟨b, rfl⟩ : ∃ b : Fin 100, x = ix2 b (0 : Fin 1) := by
    refine ⟨x 0, funext fun k => ?_⟩
    fin_cases k
    · rfl
    · exact Subsingleton.elim (α := Fin 1) _ _
  have h : ∀ n : Fin 2, IntOp.andi (IntOp.cmpi .sge (BitVec.ofNat 32 n.val) 0#32) (IntOp.cmpi .sle (BitVec.ofNat 32 n.val) 1#32) = 1#1 := by
    decide +kernel
  rw [index_at V hx]
  exact h _

/-- The masked features, read at an entry. -/
theorem v4_at (V : Mem) (hx : BatchOk (F := Ideal) (boxesIn V)) (b : Fin 100) (ch : Fin 128) (y x : Fin 50) :
    res_main_v4 V (ix4 b ch y x)
      = featsIn V (ix4 (batchOf (boxesIn V) hx b) ch y x) * masksIn V (ix4 b ch y x) := by
  pointwise [res_main_v4]
  rw [gather_map _ _ _ _ _ _ _ (index_at V hx b)]
  exact congrArg (fun w => Scalar.select w _ _ * masksIn V (ix4 b ch y x)) (all_set _ _ (in_range V hx))

/-- The masked features at the grid point of two line numbers. -/
theorem v4_point (V : Mem) (hx : BatchOk (F := Ideal) (boxesIn V)) (b : Fin 100) (ch : Fin 128) (n k : ℕ) :
    res_main_v4 V (ix4 b ch (Fin.ofNat 50 n) (Fin.ofNat 50 k))
      = masked (featsIn V) (masksIn V) (batchOf (boxesIn V) hx b) b ch n k :=
  v4_at V hx b ch _ _

/-- The pair of words that a lookup of one corner reads: the row's line and the column's, side by side. -/
abbrev pairs (r : IVec S100x14x1 32) (c : IVec S100x1x14 32) : IVec S100x14x14x2 32 :=
  concatenate S100x14x14x2 3 [⟨S100x14x14x1, (broadcastInDim S100x14x14x1 ![0, 1, 2] bcast_S100x14x14_S100x14x14x1_0_1_2 (broadcastInDim S100x14x14 ![0, 1, 2] bcast_S100x14x1_S100x14x14_0_1_2 (select (cmpi .slt r (broadcastInDim S100x14x1 ![] bcast_S_S100x14x1 (constantI S_ 32 0#32))) (addi r (broadcastInDim S100x14x1 ![] bcast_S_S100x14x1 (constantI S_ 32 50#32))) r)))⟩, ⟨S100x14x14x1, (broadcastInDim S100x14x14x1 ![0, 1, 2] bcast_S100x14x14_S100x14x14x1_0_1_2 (broadcastInDim S100x14x14 ![0, 1, 2] bcast_S100x1x14_S100x14x14_0_1_2 (select (cmpi .slt c (broadcastInDim S100x1x14 ![] bcast_S_S100x1x14 (constantI S_ 32 0#32))) (addi c (broadcastInDim S100x1x14 ![] bcast_S_S100x1x14 (constantI S_ 32 50#32))) c)))⟩] concatenates_S100x14x14x1_S100x14x14x1_S100x14x14x2_d3

/-- The lookup of one corner, read at an entry: the masked feature at the corner's two lines. -/
theorem corner_at (V : Mem) (hx : BatchOk (F := Ideal) (boxesIn V)) (r : IVec S100x14x1 32) (c : IVec S100x1x14 32)
    (b : Fin 100) (ch : Fin 128) (i j : Fin 14) (n k : ℕ) (hn : n ≤ 49) (hk : k ≤ 49)
    (hr : r (ix3 b i (0 : Fin 1)) = BitVec.ofNat 32 n) (hc : c (ix3 b (0 : Fin 1) j) = BitVec.ofNat 32 k) :
    Host.gather gather_S100x128x50x50_S100x14x14x2_S100x128x14x14_1_23_0_0_23_3_112811 (res_main_v4 V) (pairs r c) (ix4 b ch i j)
      = masked (featsIn V) (masksIn V) (batchOf (boxesIn V) hx b) b ch n k := by
  rw [gather_point _ _ b ch i j n k hn hk, v4_point V hx]
  · pointwise
    rw [hr, line_kept n hn]
  · pointwise
    rw [hc, line_kept k hk]

end Cert.ReferenceIdeal.Roi
-- ==== Proof.RefValue.lean ====
/- The reference's result over the extended reals, read at an entry: the mean of four bilinear samples of the masked
   features. -/
module

public import proofs.«01_k».proof.Proof.Lookup
public import Idealize.ShloMosaic.Lib.ValueIdxRank6

@[expose] public section

set_option maxRecDepth 16384

noncomputable section

namespace Cert.ReferenceIdeal.Roi

open Cert.ReferenceIdeal Cert.ReferenceIdeal.Gen Cert.ReferenceIdeal.Value Cert.Sample
open Cert.KernelIdeal.Roi (edge masked pooledValue counts_bit BatchOk batchOf)
open Idealize.ShloMosaic Idealize.ShloMosaic.TcCoe

/-- The product of a row's weight and a column's, for every pair of samples, the same in every channel. -/
abbrev products (v w : FVec Ideal S100x14 .f32) : FVec Ideal S100x128x14x14 .f32 :=
  broadcastInDim S100x128x14x14 ![0, 1, 2, 3] bcast_S100x1x14x14_S100x128x14x14_0_1_2_3 (broadcastInDim S100x1x14x14 ![0, 2, 3] bcast_S100x14x14_S100x1x14x14_0_2_3 (mulf (broadcastInDim S100x14x14 ![0, 1, 2] bcast_S100x14x1_S100x14x14_0_1_2 (broadcastInDim S100x14x1 ![0, 1] bcast_S100x14_S100x14x1_0_1 v)) (broadcastInDim S100x14x14 ![0, 1, 2] bcast_S100x1x14_S100x14x14_0_1_2 (broadcastInDim S100x1x14 ![0, 2] bcast_S100x14_S100x1x14_0_2 w))))

/-- The bits that say which coordinates count. -/
abbrev counting (v : FVec Ideal S100x14 .f32) : IVec S100x14 1 :=
  andi (cmpf .oge v (broadcastInDim S100x14 ![] bcast_S_S100x14 (constant S_ .f32 0xBF800000#32))) (cmpf .ole v (broadcastInDim S100x14 ![] bcast_S_S100x14 (constant S_ .f32 0x42480000#32)))

/-- One for the samples whose two coordinates count and zero for the others, the same in every channel. -/
abbrev counted (v w : FVec Ideal S100x14 .f32) : FVec Ideal S100x128x14x14 .f32 :=
  broadcastInDim S100x128x14x14 ![0, 1, 2, 3] bcast_S100x1x14x14_S100x128x14x14_0_1_2_3 (uitofp .f32 (broadcastInDim S100x1x14x14 ![0, 2, 3] bcast_S100x14x14_S100x1x14x14_0_2_3 (andi (broadcastInDim S100x14x14 ![0, 1, 2] bcast_S100x14x1_S100x14x14_0_1_2 (broadcastInDim S100x14x1 ![0, 1] bcast_S100x14_S100x14x1_0_1 (counting v))) (broadcastInDim S100x14x14 ![0, 1, 2] bcast_S100x1x14_S100x14x14_0_1_2 (broadcastInDim S100x1x14 ![0, 2] bcast_S100x14_S100x1x14_0_2 (counting w))))))

/-- The masked features at one corner of every sample. -/
abbrev corner (V : Mem) (r : IVec S100x14x1 32) (c : IVec S100x1x14 32) : FVec Ideal S100x128x14x14 .f32 :=
  Host.gather gather_S100x128x50x50_S100x14x14x2_S100x128x14x14_1_23_0_0_23_3_112811 (res_main_v4 V) (pairs r c)

/-- All samples of all boxes and channels. -/
def samplesIn (V : Mem) : FVec Ideal S100x128x14x14 .f32 :=
  mulf (addf (res_main_v190 V) (mulf (corner V (res_main_v191 V) (res_main_v192 V)) (products (res_main_v104 V) (res_main_v106 V))))
    (counted (res_main_v63 V) (res_main_v64 V))

/-- The reference's result. -/
def resultIn (V : Mem) : FVec Ideal S100x128x49 .f32 :=
  shapeCast _ (Host.divf (Host.reduceAdd (shapeCast _ (samplesIn V) shapeCasts_S100x128x14x14_S100x128x7x2x7x2) (constant S_ .f32 0x00000000#32) reducesTo_S100x128x7x2x7x2_S100x128x7x7_d3_5 h_S_) (broadcastInDim S100x128x7x7 ![] bcast_S_S100x128x7x7 (constant S_ .f32 0x40800000#32))) shapeCasts_S100x128x7x7_S100x128x49

/-- The first three corners of the samples, added up. -/
theorem v190_eq (V : Mem) : (res_main_v190 V : FVec Ideal S100x128x14x14 .f32)
    = addf (addf (mulf (corner V (res_main_v111 V) (res_main_v112 V)) (products (res_main_v108 V) (res_main_v110 V)))
        (mulf (corner V (res_main_v137 V) (res_main_v138 V)) (products (res_main_v108 V) (res_main_v106 V))))
      (mulf (corner V (res_main_v164 V) (res_main_v165 V)) (products (res_main_v104 V) (res_main_v110 V))) := rfl

/-- A product of weights, read at an entry. -/
theorem products_at (v w : FVec Ideal S100x14 .f32) (b : Fin 100) (ch : Fin 128) (i j : Fin 14) :
    products v w (ix4 b ch i j) = v (ix2 b i) * w (ix2 b j) := by
  pointwise [products]

/-- Whether a coordinate counts, as a bit. -/
theorem counting_at (v : FVec Ideal S100x14 .f32) (b : Fin 100) (i : Fin 14) :
    counting v (ix2 b i) = BitVec.ofBool (decide (Counts (v (ix2 b i)))) := by
  pointwise [counting]
  rw [ofBits_neg_one, ofBits_50, counts_bit]

/-- Whether a sample counts, as a number. -/
theorem counted_at (v w : FVec Ideal S100x14 .f32) (b : Fin 100) (ch : Fin 128) (i j : Fin 14) :
    counted v w (ix4 b ch i j) = ind (Counts (v (ix2 b i)) ∧ Counts (w (ix2 b j))) := by
  have e : counted v w (ix4 b ch i j)
      = (FloatOps.uitofp .f32 (IntOp.andi (counting v (ix2 b i)) (counting w (ix2 b j))) : Ideal .f32) := by
    pointwise [counted]
  rw [e, counting_at, counting_at]
  show ((((IntOp.andi _ _ : BitVec 1).toNat : ℕ) : ℝ) : EReal) = _
  unfold ind IntOp.andi
  by_cases h0 : Counts (v (ix2 b i)) <;> by_cases h1 : Counts (w (ix2 b j)) <;> simp [h0, h1]

/-- A sample, read at an entry. -/
theorem samplesIn_at (V : Mem) (hx : BatchOk (F := Ideal) (boxesIn V)) (b : Fin 100) (ch : Fin 128) (i j : Fin 14) :
    samplesIn V (ix4 b ch i j)
      = sample (masked (featsIn V) (masksIn V) (batchOf (boxesIn V) hx b) b ch) (rowAt V b i.val) (colAt V b j.val) := by
  have lr := low_le (rowAt V b i.val)
  have hr := high_le (rowAt V b i.val)
  have lc := low_le (colAt V b j.val)
  have hc := high_le (colAt V b j.val)
  have e0 := corner_at V hx (res_main_v111 V) (res_main_v112 V) b ch i j _ _ lr lc
    (by pointwise [res_main_v111]; rw [v82_at]) (by pointwise [res_main_v112]; rw [v86_at])
  have e1 := corner_at V hx (res_main_v137 V) (res_main_v138 V) b ch i j _ _ lr hc
    (by pointwise [res_main_v137]; rw [v82_at]) (by pointwise [res_main_v138]; rw [v94_at])
  have e2 := corner_at V hx (res_main_v164 V) (res_main_v165 V) b ch i j _ _ hr lc
    (by pointwise [res_main_v164]; rw [v90_at]) (by pointwise [res_main_v165]; rw [v86_at])
  have e3 := corner_at V hx (res_main_v191 V) (res_main_v192 V) b ch i j _ _ hr hc
    (by pointwise [res_main_v191]; rw [v90_at]) (by pointwise [res_main_v192]; rw [v94_at])
  unfold samplesIn
  rw [v190_eq]
  show (corner V _ _ (ix4 b ch i j) * products _ _ (ix4 b ch i j) + corner V _ _ (ix4 b ch i j) * products _ _ (ix4 b ch i j)
      + corner V _ _ (ix4 b ch i j) * products _ _ (ix4 b ch i j) + corner V _ _ (ix4 b ch i j) * products _ _ (ix4 b ch i j))
      * counted _ _ (ix4 b ch i j) = _
  rw [counted_at, products_at, products_at, products_at, products_at]
  rw [show corner V (res_main_v111 V) (res_main_v112 V) (ix4 b ch i j) = _ from e0,
    show corner V (res_main_v137 V) (res_main_v138 V) (ix4 b ch i j) = _ from e1,
    show corner V (res_main_v164 V) (res_main_v165 V) (ix4 b ch i j) = _ from e2,
    show corner V (res_main_v191 V) (res_main_v192 V) (ix4 b ch i j) = _ from e3]
  rw [v63_at, v64_at, v104_at, v106_at, v108_at, v110_at]
  rfl

/-- The sum over the two axes that number a bin's samples, read at a bin. -/
theorem bin_sum (x : S100x128x7x2x7x2.Idx → EReal) (z : EReal) (b : Fin 100) (ch : Fin 128) (i j : Fin 7) :
    Ideal.hostReduceAdd reducesTo_S100x128x7x2x7x2_S100x128x7x7_d3_5 x z (ix4 b ch i j)
      = z + ∑ k : Fin 2 × Fin 2, x (ix6 b ch i k.1 j k.2) := by
  refine congrArg (z + ·) (Finset.sum_filter_eq_sum_of_fiber _ (fun k : Fin 2 × Fin 2 => ix6 b ch i k.1 j k.2) ?_ ?_ x)
  · intro k l e
    exact Prod.ext (congrFun e 3) (congrFun e 5)
  · intro y
    constructor
    · intro e
      refine ⟨(y 3, y 5), funext fun a => Fin.ext ?_⟩
      fin_cases a
      · exact (congrArg Fin.val (congrFun e 0)).symm
      · exact (congrArg Fin.val (congrFun e 1)).symm
      · exact (congrArg Fin.val (congrFun e 2)).symm
      · rfl
      · exact (congrArg Fin.val (congrFun e 3)).symm
      · rfl
    · rintro ⟨k, rfl⟩
      funext a
      fin_cases a <;> rfl

/-- The samples split by bin: sample `k` of bin `i` along an axis is number `2 i + k`. -/
theorem split_at (x : S100x128x14x14.Idx → EReal) (b : Fin 100) (ch : Fin 128) (i j : Fin 7) (k l : Fin 2) :
    shapeCast S100x128x7x2x7x2 x shapeCasts_S100x128x14x14_S100x128x7x2x7x2 (ix6 b ch i k j l)
      = x (ix4 b ch (⟨2 * i.val + k.val, by omega⟩ : Fin 14) (⟨2 * j.val + l.val, by omega⟩ : Fin 14)) := by
  pointwise
  simp only [Nat.mul_comm]

/-- An entry of the result: the mean of its bin's four samples. -/
theorem resultIn_at (V : Mem) (hx : BatchOk (F := Ideal) (boxesIn V)) (b : Fin 100) (ch : Fin 128) (r : Fin 49) :
    resultIn V (ix3 b ch r)
      = pooledValue (boxesIn V) (featsIn V) (masksIn V) (batchOf (boxesIn V) hx b) b ch (r.val / 7) (r.val % 7) := by
  unfold resultIn
  pointwise
  rw [ofBits_4, bin_sum, Ideal.div, if_neg (by norm_cast), Fintype.sum_prod_type]
  simp only [split_at, samplesIn_at V hx, Fin.sum_univ_two, zero_add, ← EReal.coe_inv, ← one_div]
  rfl

end Cert.ReferenceIdeal.Roi
-- ==== Proof.Bounds.lean ====
/- What the value claim's precondition says of one box. -/
module

public import proofs.«01_k».proof.Pre_boxes_fit
public import proofs.«01_k».proof.Proof.Batch

@[expose] public section

noncomputable section

/-- The shape relations of the value claim's precondition. -/
theorem Cert.Pre_boxes_fit.shapes : Cert.Pre_boxes_fit.Facts where
  slices_S100x5_S100x1_0_0 := by decide
  shapeCasts_S100x1_S100 := by decide
  bcast_S_S100 := by decide
  slices_S100x5_S100x1_0_4 := by decide
  slices_S100x5_S100x1_0_2 := by decide

namespace Cert.KernelIdeal.Roi

open Cert.KernelIdeal Cert.KernelIdeal.Gen
open Idealize.ShloMosaic

/-- Both bits of a conjunction that is set are set. -/
theorem both_set (a b : BitVec 1) (h : IntOp.andi a b = 1#1) : a = 1#1 ∧ b = 1#1 := by
  revert a b; decide

/-- A comparison's bit is set exactly when the comparison holds. -/
theorem set_iff {p : Prop} [Decidable p] : BitVec.ofBool (decide p) = 1#1 ↔ p := by
  by_cases h : p <;> simp [h]

/-- The value claim's precondition: every box names one of the two feature maps, and its scaled height is at most 22. -/
theorem of_boxes_fit [Cert.Pre_boxes_fit.Facts] (x1 : FVec Ideal S2x128x50x50 .f32) (x0 : FVec Ideal S100x5 .f32)
    (M : FVec Ideal S100x128x50x50 .f32) (h : Cert.Pre_boxes_fit.fn x1 x0 M = fun _ => 1#1) :
    BatchOk (F := Ideal) x0 ∧ ∀ b : Fin 100, x0 (ix2 b 4) * Ideal.ofBits .f32 0x3E800000#32 - x0 (ix2 b 2) * Ideal.ofBits .f32 0x3E800000#32 ≤ Ideal.ofBits .f32 0x41B00000#32 := by
  have hb := fun b : Fin 100 => congrFun h (ix1 b)
  unfold Cert.Pre_boxes_fit.fn Cert.Pre_boxes_fit.fn_part1 at hb
  pointwise at hb
  refine ⟨fun b => ?_, fun b => ?_⟩
  · rw [boxAt_eq, ← word_conversions_ideal]
    exact word_below_two _ (both_set _ _ (hb b)).1
  · have := (both_set _ _ (hb b)).2
    exact set_iff.mp this

end Cert.KernelIdeal.Roi

end
-- ==== Proof.Agree.lean ====
/- The kernel's result is the reference's: both are the same mean of four samples at every entry. -/
module

public import proofs.«01_k».proof.Proof.RefValue
public import proofs.«01_k».proof.Proof.Launch
public import proofs.«01_k».proof.Proof.Bounds

@[expose] public section

set_option maxRecDepth 16384

noncomputable section

namespace Cert.ReferenceIdeal.Roi

open Cert.Sample
open Cert.KernelIdeal.Roi (edge BatchOk block block_at boxesOf featsOf masksOf result)
open Idealize.ShloMosaic Idealize.ShloMosaic.TcCoe Idealize.SL.Sem Idealize.ShloMosaic.StableHlo

/-- An entry of the kernel's block is the reference's entry, from the same boxes, features and masks. -/
theorem entry_agrees (V : Mem) (x0 : Vec Ideal Cert.KernelIdeal.S100x5 .f32) (hx : BatchOk x0)
    (x1 : Vec Ideal Cert.KernelIdeal.S2x128x50x50 .f32) (M : Cert.KernelIdeal.S100x128x50x50.Idx → EReal)
    (h0 : boxesIn V = x0) (h1 : featsIn V = x1) (h2 : masksIn V = M) (b : Fin 100) (ch : Fin 128) (r : Fin 49)
    (h : edge x0 b 4 - edge x0 b 2 ≤ ((22 : ℝ) : EReal)) :
    resultIn V (ix3 b ch r) = block (F := Ideal) x0 hx x1 M b (ix3 (0 : Fin 1) ch r) := by
  subst h0 h1 h2
  rw [resultIn_at V hx, block_at _ hx _ _ _ _ _ h]

/-- The whole result, on one device, from memories that agree on the arguments. -/
theorem result_agrees (m : (ℓ : Loc Cert.KernelIdeal.nD Cert.KernelIdeal.τ Cert.KernelIdeal.sig) → Buf (Elt Ideal) ℓ)
    (hb : ∀ c, BatchOk (boxesOf m c)) (V : Mem) (c : Dev Cert.KernelIdeal.nD)
    (h0 : boxesIn V = boxesOf m c) (h1 : featsIn V = featsOf m c) (h2 : masksIn V = masksOf m c)
    (h : ∀ b : Fin 100, edge (boxesOf m c) b 4 - edge (boxesOf m c) b 2 ≤ ((22 : ℝ) : EReal)) :
    resultIn V = result m hb c := by
  funext i
  obtain ⟨b, ch, r, rfl⟩ : ∃ (b : Fin 100) (ch : Fin 128) (r : Fin 49), i = ix3 b ch r :=
    ⟨i 0, i 1, i 2, by funext k; fin_cases k <;> rfl⟩
  exact entry_agrees V _ (hb c) _ _ h0 h1 h2 b ch r (h b)

/-- The height that the precondition bounds, as a difference of scaled edges. -/
theorem height_le (x0 : FVec Ideal Cert.KernelIdeal.S100x5 .f32) (b : Fin 100)
    (h : x0 (ix2 b 4) * Ideal.ofBits .f32 0x3E800000#32 - x0 (ix2 b 2) * Ideal.ofBits .f32 0x3E800000#32 ≤ Ideal.ofBits .f32 0x41B00000#32) :
    edge x0 b 4 - edge x0 b 2 ≤ ((22 : ℝ) : EReal) := by
  rw [ofBits_quarter, ofBits_22] at h
  exact h

/-- The reference's run with its result named: the array ends holding `resultIn`, the arguments as they were. -/
theorem run_named (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
        r.2.mem ((c.tc : Thread Cert.ReferenceIdeal.nD Cert.ReferenceIdeal.τ).loc Cert.ReferenceIdeal.main_v231) = resultIn (launchContents m c)
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2) :=
  Cert.ReferenceIdeal.Value.run (F := Ideal) m ρ

end Cert.ReferenceIdeal.Roi
-- ==== Proof.lean ====
/- The proof of the certificate: every claim of Defs.lean, from the modules under Proof/. -/
module

public import proofs.«01_k».proof.Defs
public import proofs.«01_k».proof.Proof.Frames
public import proofs.«01_k».proof.Proof.Batch
public import proofs.«01_k».proof.Proof.Agree
public import Idealize.ShloMosaic.Lib.Quiescent

@[expose] public section

noncomputable section

namespace Cert.Proof

open Idealize.ShloMosaic Idealize.ShloMosaic.TcCoe Idealize.SL.Sem Idealize.ShloMosaic.StableHlo

/-- The kernel over bits runs, keeps its arguments and ends with every semaphore at zero. -/
theorem kernel_frame : Cert.quiescent_Kernel (hKernel := Cert.Kernel.Gen.facts) (hPre_batch_in_range := Cert.Pre_batch_in_range.shapes) :=
  fun m g h => Cert.Kernel.Roi.quiet m g fun c =>
    haveI := Cert.Pre_batch_in_range.shapes
    Cert.KernelIdeal.Roi.batchOk_of_batch_in_range Cert.KernelIdeal.Roi.word_conversions_bits _ _ _ (h c)

/-- The ideal kernel does too, -/
theorem ideal_frame : Cert.quiescent_KernelIdeal (hKernelIdeal := Cert.KernelIdeal.Gen.facts) (hPre_batch_in_range := Cert.Pre_batch_in_range.shapes) :=
  fun m g h => Cert.KernelIdeal.Roi.quiet m g fun c =>
    haveI := Cert.Pre_batch_in_range.shapes
    Cert.KernelIdeal.Roi.batchOk_of_batch_in_range Cert.KernelIdeal.Roi.word_conversions_ideal _ _ _ (h c)

/-- and so does the reference, which has no semaphores. -/
theorem reference_frame : Cert.quiescent_ReferenceIdeal (hReferenceIdeal := Cert.ReferenceIdeal.Gen.facts) :=
  fun m g _ => (θ_run _ _ _).mono (fun r h => ⟨fun c => (h c).2, sem_eq_zero_of_no_sems (by decide) r.2⟩)
    (Cert.ReferenceIdeal.Value.run (F := Ideal) m g)

/-- The value claim's precondition, on one device: every box names a feature map and is at most 22 lines high. -/
theorem boxes_fit (m : (ℓ : Loc Cert.KernelIdeal.nD Cert.KernelIdeal.τ Cert.KernelIdeal.sig) → Buf (Elt Ideal) ℓ)
    (h : Cert.Pre_KernelIdeal_boxes_fit (hPre_boxes_fit := Cert.Pre_boxes_fit.shapes) m) (c : Dev Cert.KernelIdeal.nD) :
    Cert.KernelIdeal.Roi.BatchOk (Cert.KernelIdeal.Roi.boxesOf m c)
      ∧ ∀ b : Fin 100, Cert.KernelIdeal.Roi.edge (Cert.KernelIdeal.Roi.boxesOf m c) b 4 - Cert.KernelIdeal.Roi.edge (Cert.KernelIdeal.Roi.boxesOf m c) b 2 ≤ ((22 : ℝ) : EReal) :=
  haveI := Cert.Pre_boxes_fit.shapes
  have e := Cert.KernelIdeal.Roi.of_boxes_fit _ _ _ (h c)
  ⟨e.1, fun b => Cert.ReferenceIdeal.Roi.height_le _ b (e.2 b)⟩

/-- The ideal kernel's frame again, from the value claim's precondition, -/
theorem ideal_frame_fit : Cert.quiescent_KernelIdeal_pre_boxes_fit (hKernelIdeal := Cert.KernelIdeal.Gen.facts) (hPre_boxes_fit := Cert.Pre_boxes_fit.shapes) :=
  fun m g h => Cert.KernelIdeal.Roi.quiet m g fun c => (boxes_fit m h c).1

/-- and the reference's. -/
theorem reference_frame_fit : Cert.quiescent_ReferenceIdeal_pre_boxes_fit (hReferenceIdeal := Cert.ReferenceIdeal.Gen.facts) (hPre_boxes_fit := Cert.Pre_boxes_fit.shapes) :=
  fun m g _ => reference_frame m g trivial

/-- From memories that agree on the arguments, the reference's result is the kernel's. -/
theorem result_of_fit (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.Pre_KernelIdeal_boxes_fit (hPre_boxes_fit := Cert.Pre_boxes_fit.shapes) m)
    (e : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (c : Dev Cert.KernelIdeal.nD) :
    Cert.ReferenceIdeal.Roi.resultIn (launchContents m' c) = Cert.KernelIdeal.Roi.result m (fun c => (boxes_fit m h c).1) c :=
  Cert.ReferenceIdeal.Roi.result_agrees m (fun c => (boxes_fit m h c).1) (launchContents m' c) c (e c).2.1 (e c).1 (e c).2.2 (boxes_fit m h c).2

/-- The value claim: the ideal kernel and the reference end with equal results. -/
theorem value : Cert.algebraic_KernelIdeal_ReferenceIdeal_pre_boxes_fit (hKernelIdeal := Cert.KernelIdeal.Gen.facts) (hReferenceIdeal := Cert.ReferenceIdeal.Gen.facts) (hPre_boxes_fit := Cert.Pre_boxes_fit.shapes) :=
  fun m g m' g' h e => ⟨fun c => Cert.KernelIdeal.Roi.result m (fun c => (boxes_fit m h c).1) c,
    Cert.KernelIdeal.Roi.run_result m g _,
    (θ_run _ _ _).mono (fun r k c => ⟨(k c).1.trans (result_of_fit m m' h e c), (k c).2⟩) (Cert.ReferenceIdeal.Roi.run_named m' g')⟩

/-- Everything the certificate claims. -/
theorem claim : Cert.Claim :=
  ⟨Cert.Kernel.Gen.facts, Cert.KernelIdeal.Gen.facts, Cert.ReferenceIdeal.Gen.facts, Cert.Pre_batch_in_range.shapes, Cert.Pre_boxes_fit.shapes,
    kernel_frame, ideal_frame, ideal_frame_fit, reference_frame, reference_frame_fit, trivial, value⟩

end Cert.Proof

end
